-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_returns_miss_the_inner_edges [hPre_returns_miss_the_inner_edges : Cert.Pre_returns_miss_the_inner_edges.Facts] (m : (ℓ : Loc Cert.KernelIdeal.nD Cert.KernelIdeal.τ Cert.KernelIdeal.sig) → Buf (Elt Ideal) ℓ) : Prop :=
  ∀ c : Dev Cert.KernelIdeal.nD,
    (Cert.Pre_returns_miss_the_inner_edges.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_returns_miss_the_inner_edges [hPre_returns_miss_the_inner_edges : Cert.Pre_returns_miss_the_inner_edges.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_returns_miss_the_inner_edges.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_returns_miss_the_inner_edges [hKernelIdeal : Cert.KernelIdeal.Facts] [hPre_returns_miss_the_inner_edges : Cert.Pre_returns_miss_the_inner_edges.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_returns_miss_the_inner_edges m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_returns_miss_the_inner_edges [hReferenceIdeal : Cert.ReferenceIdeal.Facts] [hPre_returns_miss_the_inner_edges : Cert.Pre_returns_miss_the_inner_edges.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_returns_miss_the_inner_edges m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_returns_miss_the_inner_edges [hKernelIdeal : Cert.KernelIdeal.Facts] [hReferenceIdeal : Cert.ReferenceIdeal.Facts] [hPre_returns_miss_the_inner_edges : Cert.Pre_returns_miss_the_inner_edges.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_returns_miss_the_inner_edges m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v8_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v8_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_v81) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_returns_miss_the_inner_edges : Cert.Pre_returns_miss_the_inner_edges.Facts),
    quiescent_Kernel (hKernel := hKernel)
    ∧ quiescent_KernelIdeal (hKernelIdeal := hKernelIdeal)
    ∧ quiescent_KernelIdeal_pre_returns_miss_the_inner_edges (hKernelIdeal := hKernelIdeal) (hPre_returns_miss_the_inner_edges := hPre_returns_miss_the_inner_edges)
    ∧ quiescent_ReferenceIdeal (hReferenceIdeal := hReferenceIdeal)
    ∧ quiescent_ReferenceIdeal_pre_returns_miss_the_inner_edges (hReferenceIdeal := hReferenceIdeal) (hPre_returns_miss_the_inner_edges := hPre_returns_miss_the_inner_edges)
    ∧ preserves_Kernel_KernelIdeal
    ∧ algebraic_KernelIdeal_ReferenceIdeal_pre_returns_miss_the_inner_edges (hKernelIdeal := hKernelIdeal) (hReferenceIdeal := hReferenceIdeal) (hPre_returns_miss_the_inner_edges := hPre_returns_miss_the_inner_edges)
-- ==== Pre_returns_miss_the_inner_edges.lean ====
abbrev S4096x8192 : Shape := ⟨2, ![4096, 8192]⟩
abbrev S8192 : Shape := ⟨1, ![8192]⟩
abbrev S32x1 : Shape := ⟨2, ![32, 1]⟩
abbrev S32 : Shape := ⟨1, ![32]⟩
abbrev S32x32 : Shape := ⟨2, ![32, 32]⟩
abbrev S_ : Shape := ⟨0, ![]⟩
abbrev S4096 : Shape := ⟨1, ![4096]⟩
abbrev S4096x1 : Shape := ⟨2, ![4096, 1]⟩
abbrev S1x8192 : Shape := ⟨2, ![1, 8192]⟩

class Facts : Prop where
  reducesTo_S8192_S_d0 : S8192.ReducesTo [0] S_
  h_S_ : 0 < S_.numel
  reducesTo_S4096x8192_S4096_d1 : S4096x8192.ReducesTo [1] S4096
  bcast_S_S4096 : S_.BroadcastsInDim S4096 (![] : Fin 0 → Fin S4096.rank)
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S8192_S1x8192_1 : S8192.BroadcastsInDim S1x8192 (![1] : Fin 1 → Fin S1x8192.rank)
  bcast_S1x8192_S4096x8192_0_1 : S1x8192.BroadcastsInDim S4096x8192 (![0, 1] : Fin 2 → Fin S4096x8192.rank)
  bcast_S4096x1_S4096x8192_0_1 : S4096x1.BroadcastsInDim S4096x8192 (![0, 1] : Fin 2 → Fin S4096x8192.rank)
  bcast_S_S4096x8192 : S_.BroadcastsInDim S4096x8192 (![] : Fin 0 → Fin S4096x8192.rank)

variable [Facts]

def fn_part1 {F : FTy → Type} [FloatOps F] (main_v12 : FVec F S4096x1 .f32) (main_v18 : FVec F S4096x8192 .f32) : IVec S4096x8192 1 :=
  let main_cst_4 : FVec F S_ .f32 := constant S_ .f32 0x00000000#32
  let main_v19 : FVec F S4096x1 .f32 := broadcastInDim S4096x1 ![] bcast_S_S4096x1 main_cst_4
  let main_v20 : IVec S4096x1 1 := cmpf .une main_v12 main_v19
  let main_v21 : FVec F S4096x8192 .f32 := Host.floor main_v18
  let main_v22 : IVec S4096x8192 1 := cmpf .une main_v18 main_v21
  let main_cst_5 : FVec F S_ .f32 := constant S_ .f32 0x00000000#32
  let main_v23 : FVec F S4096x8192 .f32 := broadcastInDim S4096x8192 ![] bcast_S_S4096x8192 main_cst_5
  let main_v24 : IVec S4096x8192 1 := cmpf .ole main_v18 main_v23
  let main_v25 : IVec S4096x8192 1 := ori main_v22 main_v24
  let main_cst_6 : FVec F S_ .f32 := constant S_ .f32 0x42440000#32
  let main_v26 : FVec F S4096x8192 .f32 := broadcastInDim S4096x8192 ![] bcast_S_S4096x8192 main_cst_6
  let main_v27 : IVec S4096x8192 1 := cmpf .oge main_v18 main_v26
  let main_v28 : IVec S4096x8192 1 := ori main_v25 main_v27
  let main_v29 : IVec S4096x8192 1 := broadcastInDim S4096x8192 ![0, 1] bcast_S4096x1_S4096x8192_0_1 main_v20
  let main_v30 : IVec S4096x8192 1 := andi main_v29 main_v28
  main_v30

def fn {F : FTy → Type} [FloatOps F] (main_arg0 : FVec F S4096x8192 .f32) (main_arg1 : FVec F S8192 .f32) (main_arg2 : FVec F S32x1 .f32) (main_arg3 : FVec F S32 .f32) (main_arg4 : FVec F S32x32 .f32) (main_arg5 : FVec F S32 .f32) : IVec S4096x8192 1 :=
  let main_cst : FVec F S_ .f32 := constant S_ .f32 0x7F800000#32
  let main_v0 : FVec F S_ .f32 := (fun x v => Host.reduce FloatOps.minimumf x v reducesTo_S8192_S_d0 h_S_) main_arg1 main_cst
  let main_cst_0 : FVec F S_ .f32 := constant S_ .f32 0x7F800000#32
  let main_v1 : FVec F S4096 .f32 := (fun x v => Host.reduce FloatOps.minimumf x v reducesTo_S4096x8192_S4096_d1 h_S_) main_arg0 main_cst_0
  let main_v2 : FVec F S4096 .f32 := broadcastInDim S4096 ![] bcast_S_S4096 main_v0
  let main_v3 : FVec F S4096 .f32 := minimumf main_v2 main_v1
  let main_v4 : FVec F S4096x1 .f32 := broadcastInDim S4096x1 ![0] bcast_S4096_S4096x1_0 main_v3
  let main_cst_1 : FVec F S_ .f32 := constant S_ .f32 0xFF800000#32
  let main_v5 : FVec F S_ .f32 := (fun x v => Host.reduce FloatOps.maximumf x v reducesTo_S8192_S_d0 h_S_) main_arg1 main_cst_1
  let main_cst_2 : FVec F S_ .f32 := constant S_ .f32 0xFF800000#32
  let main_v6 : FVec F S4096 .f32 := (fun x v => Host.reduce FloatOps.maximumf x v reducesTo_S4096x8192_S4096_d1 h_S_) main_arg0 main_cst_2
  let main_v7 : FVec F S4096 .f32 := broadcastInDim S4096 ![] bcast_S_S4096 main_v5
  let main_v8 : FVec F S4096 .f32 := maximumf main_v7 main_v6
  let main_v9 : FVec F S4096x1 .f32 := broadcastInDim S4096x1 ![0] bcast_S4096_S4096x1_0 main_v8
  let main_v10 : FVec F S4096x1 .f32 := subf main_v9 main_v4
  let main_cst_3 : FVec F S_ .f32 := constant S_ .f32 0x42440000#32
  let main_v11 : FVec F S4096x1 .f32 := broadcastInDim S4096x1 ![] bcast_S_S4096x1 main_cst_3
  let main_v12 : FVec F S4096x1 .f32 := Host.divf main_v10 main_v11
  let main_v13 : FVec F S1x8192 .f32 := broadcastInDim S1x8192 ![1] bcast_S8192_S1x8192_1 main_arg1
  let main_v14 : FVec F S4096x8192 .f32 := broadcastInDim S4096x8192 ![0, 1] bcast_S1x8192_S4096x8192_0_1 main_v13
  let main_v15 : FVec F S4096x8192 .f32 := broadcastInDim S4096x8192 ![0, 1] bcast_S4096x1_S4096x8192_0_1 main_v4
  let main_v16 : FVec F S4096x8192 .f32 := subf main_v14 main_v15
  let main_v17 : FVec F S4096x8192 .f32 := broadcastInDim S4096x8192 ![0, 1] bcast_S4096x1_S4096x8192_0_1 main_v12
  let main_v18 : FVec F S4096x8192 .f32 := Host.divf main_v16 main_v17
  fn_part1 (F := F) main_v12 main_v18
-- ==== Kernel.lean ====
abbrev S4096x8192 : Shape := ⟨2, ![4096, 8192]⟩
abbrev S8192 : Shape := ⟨1, ![8192]⟩
abbrev S32x1 : Shape := ⟨2, ![32, 1]⟩
abbrev S32 : Shape := ⟨1, ![32]⟩
abbrev S32x32 : Shape := ⟨2, ![32, 32]⟩
abbrev S128 : Shape := ⟨1, ![128]⟩
abbrev S1x128 : Shape := ⟨2, ![1, 128]⟩
abbrev S128x64 : Shape := ⟨2, ![128, 64]⟩
abbrev S64x128 : Shape := ⟨2, ![64, 128]⟩
abbrev S1x32 : Shape := ⟨2, ![1, 32]⟩
abbrev S4096x1 : Shape := ⟨2, ![4096, 1]⟩
abbrev S4096x32 : Shape := ⟨2, ![4096, 32]⟩
abbrev S64x8192 : Shape := ⟨2, ![64, 8192]⟩
abbrev S64x1 : Shape := ⟨2, ![64, 1]⟩
abbrev S64x32 : Shape := ⟨2, ![64, 32]⟩
abbrev S1x1 : Shape := ⟨2, ![1, 1]⟩
abbrev S64 : Shape := ⟨1, ![64]⟩
abbrev S64x64 : Shape := ⟨2, ![64, 64]⟩
abbrev S64x128x1 : Shape := ⟨3, ![64, 128, 1]⟩
abbrev S64x63 : Shape := ⟨2, ![64, 63]⟩

abbrev nBuf : Space → Nat
  | .hbm => 16
  | .vmem => 12
  | .smem => 0
  | _ => 0

abbrev bufTy : (tb : Table) → Fin (tcTables nBuf tb) → BufTy
  | .hbm, ⟨0, _⟩ => ⟨S4096x8192, .f32⟩
  | .hbm, ⟨1, _⟩ => ⟨S8192, .f32⟩
  | .hbm, ⟨2, _⟩ => ⟨S32x1, .f32⟩
  | .hbm, ⟨3, _⟩ => ⟨S32, .f32⟩
  | .hbm, ⟨4, _⟩ => ⟨S32x32, .f32⟩
  | .hbm, ⟨5, _⟩ => ⟨S32, .f32⟩
  | .hbm, ⟨6, _⟩ => ⟨S8192, .f32⟩
  | .hbm, ⟨7, _⟩ => ⟨S128, .f32⟩
  | .hbm, ⟨8, _⟩ => ⟨S1x128, .f32⟩
  | .hbm, ⟨9, _⟩ => ⟨S128x64, .f32⟩
  | .hbm, ⟨10, _⟩ => ⟨S64x128, .f32⟩
  | .hbm, ⟨11, _⟩ => ⟨S1x32, .f32⟩
  | .hbm, ⟨12, _⟩ => ⟨S1x32, .f32⟩
  | .hbm, ⟨13, _⟩ => ⟨S1x32, .f32⟩
  | .hbm, ⟨14, _⟩ => ⟨S4096x1, .f32⟩
  | .hbm, ⟨15, _⟩ => ⟨S4096x32, .f32⟩
  | .local _ .vmem, ⟨0, _⟩ => ⟨S64x8192, .f32⟩
  | .local _ .vmem, ⟨1, _⟩ => ⟨S64x8192, .f32⟩
  | .local _ .vmem, ⟨2, _⟩ => ⟨S1x128, .f32⟩
  | .local _ .vmem, ⟨3, _⟩ => ⟨S64x128, .f32⟩
  | .local _ .vmem, ⟨4, _⟩ => ⟨S1x32, .f32⟩
  | .local _ .vmem, ⟨5, _⟩ => ⟨S1x32, .f32⟩
  | .local _ .vmem, ⟨6, _⟩ => ⟨S32x32, .f32⟩
  | .local _ .vmem, ⟨7, _⟩ => ⟨S1x32, .f32⟩
  | .local _ .vmem, ⟨8, _⟩ => ⟨S64x1, .f32⟩
  | .local _ .vmem, ⟨9, _⟩ => ⟨S64x1, .f32⟩
  | .local _ .vmem, ⟨10, _⟩ => ⟨S64x32, .f32⟩
  | .local _ .vmem, ⟨11, _⟩ => ⟨S64x32, .f32⟩
  | _, _ => ⟨S4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8_0 : Ref sig .tc := ⟨.hbm, 14, rfl⟩
abbrev main_v8_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S64x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S64x32 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceIdeal.lean ====
abbrev S4096x8192 : Shape := ⟨2, ![4096, 8192]⟩
abbrev S8192 : Shape := ⟨1, ![8192]⟩
abbrev S32x1 : Shape := ⟨2, ![32, 1]⟩
abbrev S32 : Shape := ⟨1, ![32]⟩
abbrev S32x32 : Shape := ⟨2, ![32, 32]⟩
abbrev S_ : Shape := ⟨0, ![]⟩
abbrev S4096 : Shape := ⟨1, ![4096]⟩
abbrev S4096x1 : Shape := ⟨2, ![4096, 1]⟩
abbrev S1x8192 : Shape := ⟨2, ![1, 8192]⟩
abbrev S49 : Shape := ⟨1, ![49]⟩
abbrev S4096x8192x1 : Shape := ⟨3, ![4096, 8192, 1]⟩
abbrev S1x1x49 : Shape := ⟨3, ![1, 1, 49]⟩
abbrev S4096x8192x49 : Shape := ⟨3, ![4096, 8192, 49]⟩
abbrev S4096x49 : Shape := ⟨2, ![4096, 49]⟩
abbrev S1x32 : Shape := ⟨2, ![1, 32]⟩
abbrev S4096x32 : Shape := ⟨2, ![4096, 32]⟩

abbrev nBuf : Space → Nat
  | .hbm => 117
  | .vmem => 0
  | .smem => 0
  | _ => 0

abbrev bufTy : (tb : Table) → Fin (tcTables nBuf tb) → BufTy
  | .hbm, ⟨0, _⟩ => ⟨S4096x8192, .f32⟩
  | .hbm, ⟨1, _⟩ => ⟨S8192, .f32⟩
  | .hbm, ⟨2, _⟩ => ⟨S32x1, .f32⟩
  | .hbm, ⟨3, _⟩ => ⟨S32, .f32⟩
  | .hbm, ⟨4, _⟩ => ⟨S32x32, .f32⟩
  | .hbm, ⟨5, _⟩ => ⟨S32, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S4096, .f32⟩
  | .hbm, ⟨10, _⟩ => ⟨S4096, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S4096, .f32⟩
  | .hbm, ⟨17, _⟩ => ⟨S4096, .f32⟩
  | .hbm, ⟨18, _⟩ => ⟨S4096, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S1x8192, .f32⟩
  | .hbm, ⟨25, _⟩ => ⟨S4096x8192, .f32⟩
  | .hbm, ⟨26, _⟩ => ⟨S4096x8192, .f32⟩
  | .hbm, ⟨27, _⟩ => ⟨S4096x8192, .f32⟩
  | .hbm, ⟨28, _⟩ => ⟨S4096x8192, .f32⟩
  | .hbm, ⟨29, _⟩ => ⟨S4096x8192, .f32⟩
  | .hbm, ⟨30, _⟩ => ⟨S4096x8192, .f32⟩
  | .hbm, ⟨31, _⟩ => ⟨S4096x8192, .i32⟩
  | .hbm, ⟨32, _⟩ => ⟨S_, .i32⟩
  | .hbm, ⟨33, _⟩ => ⟨S_, .i32⟩
  | .hbm, ⟨34, _⟩ => ⟨S_, .i32⟩
  | .hbm, ⟨35, _⟩ => ⟨S4096x8192, .i32⟩
  | .hbm, ⟨36, _⟩ => ⟨S4096x8192, .i32⟩
  | .hbm, ⟨37, _⟩ => ⟨S_, .i32⟩
  | .hbm, ⟨38, _⟩ => ⟨S4096x8192, .i32⟩
  | .hbm, ⟨39, _⟩ => ⟨S4096x8192, .i32⟩
  | .hbm, ⟨40, _⟩ => ⟨S49, .i32⟩
  | .hbm, ⟨41, _⟩ => ⟨S4096x8192x1, .i32⟩
  | .hbm, ⟨42, _⟩ => ⟨S1x1x49, .i32⟩
  | .hbm, ⟨43, _⟩ => ⟨S4096x8192x49, .i32⟩
  | .hbm, ⟨44, _⟩ => ⟨S4096x8192x49, .i32⟩
  | .hbm, ⟨45, _⟩ => ⟨S4096x8192x49, .i1⟩
  | .hbm, ⟨46, _⟩ => ⟨S4096x8192x49, .f32⟩
  | .hbm, ⟨47, _⟩ => ⟨S_, .f32⟩
  | .hbm, ⟨48, _⟩ => ⟨S4096x49, .f32⟩
  | .hbm, ⟨49, _⟩ => ⟨S_, .f32⟩
  | .hbm, ⟨50, _⟩ => ⟨S4096x1, .f32⟩
  | .hbm, ⟨51, _⟩ => ⟨S4096x1, .f32⟩
  | .hbm, ⟨52, _⟩ => ⟨S4096x49, .f32⟩
  | .hbm, ⟨53, _⟩ => ⟨S4096x49, .f32⟩
  | .hbm, ⟨54, _⟩ => ⟨S_, .f32⟩
  | .hbm, ⟨55, _⟩ => ⟨S4096x49, .f32⟩
  | .hbm, ⟨56, _⟩ => ⟨S4096x49, .f32⟩
  | .hbm, ⟨57, _⟩ => ⟨S4096x8192, .f32⟩
  | .hbm, ⟨58, _⟩ => ⟨S4096x8192, .f32⟩
  | .hbm, ⟨59, _⟩ => ⟨S4096x8192, .f32⟩
  | .hbm, ⟨60, _⟩ => ⟨S4096x8192, .f32⟩
  | .hbm, ⟨61, _⟩ => ⟨S4096x8192, .f32⟩
  | .hbm, ⟨62, _⟩ => ⟨S4096x8192, .i32⟩
  | .hbm, ⟨63, _⟩ => ⟨S_, .i32⟩
  | .hbm, ⟨64, _⟩ => ⟨S_, .i32⟩
  | .hbm, ⟨65, _⟩ => ⟨S_, .i32⟩
  | .hbm, ⟨66, _⟩ => ⟨S4096x8192, .i32⟩
  | .hbm, ⟨67, _⟩ => ⟨S4096x8192, .i32⟩
  | .hbm, ⟨68, _⟩ => ⟨S_, .i32⟩
  | .hbm, ⟨69, _⟩ => ⟨S4096x8192, .i32⟩
  | .hbm, ⟨70, _⟩ => ⟨S4096x8192, .i32⟩
  | .hbm, ⟨71, _⟩ => ⟨S49, .i32⟩
  | .hbm, ⟨72, _⟩ => ⟨S4096x8192x1, .i32⟩
  | .hbm, ⟨73, _⟩ => ⟨S1x1x49, .i32⟩
  | .hbm, ⟨74, _⟩ => ⟨S4096x8192x49, .i32⟩
  | .hbm, ⟨75, _⟩ => ⟨S4096x8192x49, .i32⟩
  | .hbm, ⟨76, _⟩ => ⟨S4096x8192x49, .i1⟩
  | .hbm, ⟨77, _⟩ => ⟨S4096x8192x49, .f32⟩
  | .hbm, ⟨78, _⟩ => ⟨S_, .f32⟩
  | .hbm, ⟨79, _⟩ => ⟨S4096x49, .f32⟩
  | .hbm, ⟨80, _⟩ => ⟨S_, .f32⟩
  | .hbm, ⟨81, _⟩ => ⟨S4096x1, .f32⟩
  | .hbm, ⟨82, _⟩ => ⟨S4096x1, .f32⟩
  | .hbm, ⟨83, _⟩ => ⟨S4096x49, .f32⟩
  | .hbm, ⟨84, _⟩ => ⟨S4096x49, .f32⟩
  | .hbm, ⟨85, _⟩ => ⟨S_, .f32⟩
  | .hbm, ⟨86, _⟩ => ⟨S4096x49, .f32⟩
  | .hbm, ⟨87, _⟩ => ⟨S4096x49, .f32⟩
  | .hbm, ⟨88, _⟩ => ⟨S_, .f32⟩
  | .hbm, ⟨89, _⟩ => ⟨S4096, .f32⟩
  | .hbm, ⟨90, _⟩ => ⟨S4096x1, .f32⟩
  | .hbm, ⟨91, _⟩ => ⟨S4096x49, .f32⟩
  | .hbm, ⟨92, _⟩ => ⟨S4096x49, .f32⟩
  | .hbm, ⟨93, _⟩ => ⟨S_, .f32⟩
  | .hbm, ⟨94, _⟩ => ⟨S4096, .f32⟩
  | .hbm, ⟨95, _⟩ => ⟨S4096x1, .f32⟩
  | .hbm, ⟨96, _⟩ => ⟨S4096x49, .f32⟩
  | .hbm, ⟨97, _⟩ => ⟨S4096x49, .f32⟩
  | .hbm, ⟨98, _⟩ => ⟨S4096x49, .f32⟩
  | .hbm, ⟨99, _⟩ => ⟨S4096x49, .f32⟩
  | .hbm, ⟨100, _⟩ => ⟨S4096x49, .f32⟩
  | .hbm, ⟨101, _⟩ => ⟨S_, .f32⟩
  | .hbm, ⟨102, _⟩ => ⟨S4096, .f32⟩
  | .hbm, ⟨103, _⟩ => ⟨S4096x1, .f32⟩
  | .hbm, ⟨104, _⟩ => ⟨S1x32, .f32⟩
  | .hbm, ⟨105, _⟩ => ⟨S4096x32, .f32⟩
  | .hbm, ⟨106, _⟩ => ⟨S1x32, .f32⟩
  | .hbm, ⟨107, _⟩ => ⟨S4096x32, .f32⟩
  | .hbm, ⟨108, _⟩ => ⟨S4096x32, .f32⟩
  | .hbm, ⟨109, _⟩ => ⟨S_, .f32⟩
  | .hbm, ⟨110, _⟩ => ⟨S4096x32, .f32⟩
  | .hbm, ⟨111, _⟩ => ⟨S4096x32, .f32⟩
  | .hbm, ⟨112, _⟩ => ⟨S32x32, .f32⟩
  | .hbm, ⟨113, _⟩ => ⟨S4096x32, .f32⟩
  | .hbm, ⟨114, _⟩ => ⟨S1x32, .f32⟩
  | .hbm, ⟨115, _⟩ => ⟨S4096x32, .f32⟩
  | .hbm, ⟨116, _⟩ => ⟨S4096x32, .f32⟩
  | _, _ => ⟨S4096x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_cst_2 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_3 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_c : Ref sig .tc := ⟨.hbm, 32, rfl⟩
abbrev main_c_4 : Ref sig .tc := ⟨.hbm, 33, rfl⟩
abbrev main_call0_v0 : Ref sig .tc := ⟨.hbm, 34, rfl⟩
abbrev main_call0_v1 : Ref sig .tc := ⟨.hbm, 35, rfl⟩
abbrev main_call0_v2 : Ref sig .tc := ⟨.hbm, 36, rfl⟩
abbrev main_call0_v3 : Ref sig .tc := ⟨.hbm, 37, rfl⟩
abbrev main_call0_v4 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_5 : Ref sig .tc := ⟨.hbm, 47, rfl⟩
abbrev main_v29 : Ref sig .tc := ⟨.hbm, 48, rfl⟩
abbrev main_cst_6 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_7 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_c_8 : Ref sig .tc := ⟨.hbm, 63, rfl⟩
abbrev main_c_9 : Ref sig .tc := ⟨.hbm, 64, rfl⟩
abbrev main_call1_v0 : Ref sig .tc := ⟨.hbm, 65, rfl⟩
abbrev main_call1_v1 : Ref sig .tc := ⟨.hbm, 66, rfl⟩
abbrev main_call1_v2 : Ref sig .tc := ⟨.hbm, 67, rfl⟩
abbrev main_call1_v3 : Ref sig .tc := ⟨.hbm, 68, rfl⟩
abbrev main_call1_v4 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_cst_10 : Ref sig .tc := ⟨.hbm, 78, rfl⟩
abbrev main_v50 : Ref sig .tc := ⟨.hbm, 79, rfl⟩
abbrev main_cst_11 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_cst_12 : Ref sig .tc := ⟨.hbm, 85, rfl⟩
abbrev main_v55 : Ref sig .tc := ⟨.hbm, 86, rfl⟩
abbrev main_v56 : Ref sig .tc := ⟨.hbm, 87, rfl⟩
abbrev main_cst_13 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_cst_14 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_cst_15 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_cst_16 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩

abbrev nD : Nat := 1
abbrev τ : Topo := Topo.v7x

variable {F : FTy → Type} [FloatOps F]
-- ==== Proof.Body.lean ====
/- The kernel's body, block by block, as a handful of named functions of its inputs: the packed
   histogram of the current rows, the edges of the bins, the search for an edge in the table of
   block minima, and the count inside the block found. The values that the generated modules name
   are these functions of one another, by unfolding. -/
module

public import proofs.«01_k».proof.Proof.Gen.KernelIdeal.Frame

@[expose] public section

set_option maxRecDepth 16384

noncomputable section

namespace Cert.KernelIdeal.Hist

open Idealize.ShloMosaic Cert.KernelIdeal Cert.KernelIdeal.Gen

variable {F : FTy → Type} [FloatOps F]

theorem slices_at (o : Nat) (h : o < 64) : S64x8192.Slices ![0, 128 * o] S64x128 := by
  refine ⟨rfl, fun a => ?_⟩
  fin_cases a
  · show 0 + 64 ≤ 64
    omega
  · show 128 * o + 128 ≤ 8192
    omega

/-- The sum of the `2 ^ k` column slices of 128 lanes from slice `o` on, added in pairs. -/
def tree (s : IVec S64x8192 32) : (k o : Nat) → o + 2 ^ k ≤ 64 → IVec S64x128 32
  | 0, o, h => extractStridedSlice S64x128 ![0, 128 * o] s (slices_at o h)
  | k + 1, o, h => addi (tree s k o (by rw [pow_succ] at h; omega)) (tree s k (o + 2 ^ k) (by rw [pow_succ] at h; omega))

/-- The packed counters of group `g`: in the places of its bins one in the byte of the bin, added over the slices. -/
def packed (pw gr : IVec S64x8192 32) (g : BitVec 32) : IVec S64x128 32 :=
  tree (select (cmpi .eq gr (broadcast S64x8192 g)) pw (broadcast S64x8192 0#32)) 6 0 (by decide)

/-- The even bytes of the packed counters, added over the lanes. -/
def evens (pk : IVec S64x128 32) : IVec S64x1 32 :=
  shapeCast S64x1 (multiReductionI .add [1] S64 (andi pk (broadcast S64x128 16711935#32)) 0#32 reduces_S64x128_S64 rfl) shapeCasts_S64_S64x1

/-- The odd bytes of the packed counters, added over the lanes. -/
def odds (pk : IVec S64x128 32) : IVec S64x1 32 :=
  shapeCast S64x1 (multiReductionI .add [1] S64 (andi (shrsi pk (broadcast S64x128 8#32)) (broadcast S64x128 16711935#32)) 0#32 reduces_S64x128_S64 rfl) shapeCasts_S64_S64x1

/-- The low half of a pair of sums. -/
def lowHalf (s : IVec S64x1 32) : IVec S64x1 32 := andi s (broadcast S64x1 65535#32)

/-- The high half of a pair of sums. -/
def highHalf (s : IVec S64x1 32) : IVec S64x1 32 := shrsi s (broadcast S64x1 16#32)

/-- Adds the count `c` of a row into lane `j`. -/
def put (it : IVec S64x64 32) (j : BitVec 32) (c : IVec S64x1 32) (acc : FVec F S64x64 .f32) : FVec F S64x64 .f32 :=
  addf acc (select (cmpi .eq it (broadcast S64x64 j))
    (broadcastTo S64x64 (shapeCast S64x1 (sitofp .f32 c) shapeCasts_S64x1_S64x1) broadcasts_S64x1_S64x64)
    (broadcast S64x64 (Scalar.ofBits .f32 0x00000000#32)))

/-- The lanes after the first `g` groups. -/
def lanes (it : IVec S64x64 32) (pw gr : IVec S64x8192 32) : Nat → FVec F S64x64 .f32
  | 0 => broadcast S64x64 (Scalar.ofBits .f32 0x00000000#32)
  | g + 1 =>
    put it (BitVec.ofNat 32 (4 * g + 3)) (highHalf (odds (packed pw gr (BitVec.ofNat 32 g))))
      (put it (BitVec.ofNat 32 (4 * g + 2)) (highHalf (evens (packed pw gr (BitVec.ofNat 32 g))))
        (put it (BitVec.ofNat 32 (4 * g + 1)) (lowHalf (odds (packed pw gr (BitVec.ofNat 32 g))))
          (put it (BitVec.ofNat 32 (4 * g)) (lowHalf (evens (packed pw gr (BitVec.ofNat 32 g))))
            (lanes it pw gr g))))

/-- Reads a row's table at 64 lane positions, through the gather of 128 lanes the body has. -/
def pick (tab : FVec F S64x128 .f32) (idx : IVec S64x64 32) : FVec F S64x64 .f32 :=
  extractStridedSlice S64x64 ![0, 0] (dynamicGather 1 tab (shapeCast S64x128 (shapeCast S64x128x1
    (select (cmpi .slt (concatenate S64x128 1 [⟨S64x64, idx⟩, ⟨S64x64, idx⟩] concatenates_S64x64_S64x64_S64x128_d1) (broadcast S64x128 0#32))
      (addi (concatenate S64x128 1 [⟨S64x64, idx⟩, ⟨S64x64, idx⟩] concatenates_S64x64_S64x64_S64x128_d1) (broadcast S64x128 128#32))
      (concatenate S64x128 1 [⟨S64x64, idx⟩, ⟨S64x64, idx⟩] concatenates_S64x64_S64x64_S64x128_d1))
    shapeCasts_S64x128_S64x128x1) shapeCasts_S64x128x1_S64x128)) slices_S64x128_o0_0_S64x64

/-- One step of the search: past `d` entries when entry `pos + (d - 1)` is at most the edge. -/
def step (tab : FVec F S64x128 .f32) (e : FVec F S64x64 .f32) (d d' : BitVec 32) (pos : IVec S64x64 32) : IVec S64x64 32 :=
  select (cmpf .ole (pick tab (addi pos (broadcast S64x64 d'))) e) (addi pos (broadcast S64x64 d)) pos

/-- The seven halving steps. -/
def halvings (tab : FVec F S64x128 .f32) (e : FVec F S64x64 .f32) : IVec S64x64 32 :=
  step tab e 1#32 0#32 (step tab e 2#32 1#32 (step tab e 4#32 3#32 (step tab e 8#32 7#32
    (step tab e 16#32 15#32 (step tab e 32#32 31#32 (step tab e 64#32 63#32 (broadcast S64x64 0#32)))))))

/-- The number of entries found, with the last probe. -/
def found (tab : FVec F S64x128 .f32) (e : FVec F S64x64 .f32) : IVec S64x64 32 :=
  select (cmpf .ole (pick tab (minsi (halvings tab e) (broadcast S64x64 127#32))) e)
    (addi (halvings tab e) (broadcast S64x64 1#32)) (halvings tab e)

/-- The block that the edge falls in. -/
def block (tab : FVec F S64x128 .f32) (e : FVec F S64x64 .f32) : IVec S64x64 32 :=
  maxsi (subi (found tab e) (broadcast S64x64 1#32)) (broadcast S64x64 0#32)

theorem slices_row (s : Nat) (h : s < 64) : S64x128.Slices ![s, 0] S1x128 := by
  refine ⟨rfl, fun a => ?_⟩
  fin_cases a
  · show s + 1 ≤ 64
    omega
  · show 0 + 128 ≤ 128
    omega

/-- How many of the block's first `s` entries are at most the edge. -/
def inside (p3 : FVec F S64x128 .f32) (e : FVec F S64x64 .f32) (blk : IVec S64x64 32) : (s : Nat) → s ≤ 64 → IVec S64x64 32
  | 0, _ => broadcast S64x64 0#32
  | s + 1, h => addi (inside p3 e blk s (by omega))
      (select (cmpf .ole (pick (broadcastTo S64x128 (shapeCast S1x128 (extractStridedSlice S1x128 ![s, 0] p3 (slices_row s (by omega)))
        shapeCasts_S1x128_S1x128) broadcasts_S1x128_S64x128) blk) e) (broadcast S64x64 1#32) (broadcast S64x64 0#32))

/-- How many reference returns are at most the edge. -/
def rank (p3 : FVec F S64x128 .f32) (e : FVec F S64x64 .f32) (blk : IVec S64x64 32) : FVec F S64x64 .f32 :=
  sitofp .f32 (addi (muli (broadcast S64x64 64#32) blk) (inside p3 e blk 64 le_rfl))

/-- The ranks one lane to the right, with zero in front. -/
def before (r : FVec F S64x64 .f32) : FVec F S64x64 .f32 :=
  concatenate S64x64 1 [⟨S64x1, broadcast S64x1 (Scalar.ofBits .f32 0x00000000#32)⟩,
    ⟨S64x63, extractStridedSlice S64x63 ![0, 0] r slices_S64x64_o0_0_S64x63⟩] concatenates_S64x1_S64x63_S64x64_d1

/-- The reference's counts: differences of ranks, the last from the number of returns. -/
def refLanes (it : IVec S64x64 32) (r : FVec F S64x64 .f32) : FVec F S64x64 .f32 :=
  select (cmpi .eq it (broadcast S64x64 48#32)) (subf (broadcast S64x64 (Scalar.ofBits .f32 0x46000000#32)) (before r))
    (subf r (before r))

variable (x0 : Vec F S64x8192 .f32) (x1 : Vec F S1x128 .f32) (x2 : Vec F S64x128 .f32)
  (x3 x4 : Vec F S1x32 .f32) (x5 : Vec F S32x32 .f32) (x6 : Vec F S1x32 .f32)

set_option maxHeartbeats 4000000 in
theorem lanes_eq : k0_pay1437 x0 x1 x2 x3 x4 x5 x6
    = put (k0_pay1077 x0 x1 x2 x3 x4 x5 x6) 48#32
        (lowHalf (evens (packed (k0_pay1082 x0 x1 x2 x3 x4 x5 x6) (k0_pay1083 x0 x1 x2 x3 x4 x5 x6) 12#32)))
        (lanes (k0_pay1077 x0 x1 x2 x3 x4 x5 x6) (k0_pay1082 x0 x1 x2 x3 x4 x5 x6) (k0_pay1083 x0 x1 x2 x3 x4 x5 x6) 12) := by
  rfl

set_option maxHeartbeats 4000000 in
theorem block_eq : k0_pay1444 x0 x1 x2 x3 x4 x5 x6
    = block (k0_pay1439 x0 x1 x2 x3 x4 x5 x6) (k0_pay1438 x0 x1 x2 x3 x4 x5 x6) := by
  rfl

set_option maxHeartbeats 4000000 in
theorem refLanes_eq : k0_pay1447 x0 x1 x2 x3 x4 x5 x6
    = mulf (refLanes (k0_pay1077 x0 x1 x2 x3 x4 x5 x6)
        (rank (k0_pay1079 x0 x1 x2 x3 x4 x5 x6) (k0_pay1438 x0 x1 x2 x3 x4 x5 x6) (k0_pay1444 x0 x1 x2 x3 x4 x5 x6)))
        (broadcastTo S64x64 (k0_pay1446 x0 x1 x2 x3 x4 x5 x6) broadcasts_S64x1_S64x64) := by
  rfl

end Cert.KernelIdeal.Hist

end
-- ==== Proof.Pick.lean ====
/- One read of a row's table at a lane's position. -/
module

public import proofs.«01_k».proof.Proof.Body
public import Idealize.ShloMosaic.Lib.Pointwise
public import Idealize.ShloMosaic.Lib.ValueIdx

@[expose] public section

noncomputable section

namespace Cert.KernelIdeal.Hist

open Idealize.ShloMosaic Cert.KernelIdeal Cert.KernelIdeal.Gen

variable {F : FTy → Type} [FloatOps F]

/-- A position below 128 is not negative as a word, and is its own remainder. -/
theorem wrapped (n : Nat) (hn : n < 128) (w : BitVec 32) (h : w = BitVec.ofNat 32 n) :
    (Scalar.select (IntOp.cmpi CmpIPredicate.slt w 0#32) (IntOp.addi w 128#32) w).toNat % 128 = n := by
  subst h
  have h0 : IntOp.cmpi CmpIPredicate.slt (BitVec.ofNat 32 n) 0#32 = 0#1 := by
    have : (BitVec.ofNat 32 n).slt 0#32 = false := by
      rw [BitVec.slt_zero_eq_msb, BitVec.msb_eq_decide]
      simp only [BitVec.toNat_ofNat, decide_eq_false_iff_not, not_le]
      omega
    simp [IntOp.cmpi, this]
  rw [h0]
  simp only [Scalar.select, BitVec.toNat_ofNat]
  simp
  omega

theorem pick_apply (tab : FVec F S64x128 .f32) (idx : IVec S64x64 32) (r l : Fin 64) (n : Nat) (hn : n < 128)
    (h : idx (ix2 r l) = BitVec.ofNat 32 n) : pick tab idx (ix2 r l) = tab (ix2 r ⟨n, hn⟩) := by
  unfold pick
  pointwise
  congr 1
  congr 1
  exact Fin.ext (wrapped n hn _ h)

end Cert.KernelIdeal.Hist
-- ==== Proof.Search.lean ====
/- The search for an edge in the sorted reference returns: block minima first, then inside the block.
   With `N` of the sorted returns at most the edge, the search finds `N`. -/
module

public import proofs.«01_k».proof.Proof.Pick
public import Idealize.ShloMosaic.Lib.WordCmp
public import Idealize.ShloMosaic.Lib.PlanTiles.Rows
public import Idealize.ShloMosaic.Lib.Routing.Words

@[expose] public section

noncomputable section

namespace Cert.KernelIdeal.Hist

open Idealize.ShloMosaic Cert.KernelIdeal Cert.KernelIdeal.Gen

theorem addi_word (a b : Nat) : IntOp.addi (BitVec.ofNat 32 a) (BitVec.ofNat 32 b) = BitVec.ofNat 32 (a + b) :=
  (BitVec.ofNat_add a b).symm

theorem muli_word (a b : Nat) : IntOp.muli (BitVec.ofNat 32 a) (BitVec.ofNat 32 b) = BitVec.ofNat 32 (a * b) :=
  (BitVec.ofNat_mul a b).symm

/-- A select on an order comparison of two extended reals. -/
theorem select_ole {α : Type} (x y : EReal) (a b : α) :
    Scalar.select (FloatOps.cmpf (F := Ideal) (φ := .f32) .ole x y) a b = if x ≤ y then a else b := by
  show Scalar.select (BitVec.ofBool (decide (x ≤ y))) a b = _
  by_cases h : x ≤ y <;> simp [h, Scalar.select]

/-- `pos` stands at some `n` with the answer `C` no further than `d` on. -/
def Near (C : Nat) (r l : Fin 64) (d : Nat) (pos : IVec S64x64 32) : Prop :=
  ∃ n, pos (ix2 r l) = BitVec.ofNat 32 n ∧ n + d ≤ 128 ∧ n ≤ C ∧ C ≤ n + d

theorem near_step (tab : FVec Ideal S64x128 .f32) (e : FVec Ideal S64x64 .f32) (C : Nat) (r l : Fin 64)
    (hC : ∀ b (hb : b < 128), tab (ix2 r ⟨b, hb⟩) ≤ e (ix2 r l) ↔ b < C)
    (d d2 : Nat) (hd : d2 = 2 * d) (hd0 : 0 < d) (pos : IVec S64x64 32) (h : Near C r l d2 pos) :
    Near C r l d (step tab e (BitVec.ofNat 32 d) (BitVec.ofNat 32 (d - 1)) pos) := by
  obtain ⟨n, hp, h1, h2, h3⟩ := h
  have hb : n + (d - 1) < 128 := by omega
  have hg := pick_apply tab (addi pos (broadcast S64x64 (BitVec.ofNat 32 (d - 1)))) r l (n + (d - 1)) hb
    (by show IntOp.addi (pos (ix2 r l)) (BitVec.ofNat 32 (d - 1)) = _
        rw [hp, addi_word])
  have hs : step tab e (BitVec.ofNat 32 d) (BitVec.ofNat 32 (d - 1)) pos (ix2 r l)
      = if n + (d - 1) < C then BitVec.ofNat 32 (n + d) else BitVec.ofNat 32 n := by
    show Scalar.select (FloatOps.cmpf .ole (pick tab _ (ix2 r l)) (e (ix2 r l))) (IntOp.addi (pos (ix2 r l)) (BitVec.ofNat 32 d)) (pos (ix2 r l)) = _
    rw [hg, hp, addi_word, select_ole]
    simp only [hC _ hb]
  by_cases hc : n + (d - 1) < C
  · exact ⟨n + d, by rw [hs, if_pos hc], by omega, by omega, by omega⟩
  · exact ⟨n, by rw [hs, if_neg hc], by omega, by omega, by omega⟩

theorem near_halvings (tab : FVec Ideal S64x128 .f32) (e : FVec Ideal S64x64 .f32) (C : Nat) (r l : Fin 64)
    (hC : ∀ b (hb : b < 128), tab (ix2 r ⟨b, hb⟩) ≤ e (ix2 r l) ↔ b < C) (hC' : C ≤ 128) :
    Near C r l 1 (halvings tab e) := by
  have h0 : Near C r l 128 (broadcast S64x64 0#32) := ⟨0, rfl, by omega, by omega, by omega⟩
  have s := near_step tab e C r l hC
  exact s 1 2 rfl (by omega) _ (s 2 4 rfl (by omega) _ (s 4 8 rfl (by omega) _ (s 8 16 rfl (by omega) _
    (s 16 32 rfl (by omega) _ (s 32 64 rfl (by omega) _ (s 64 128 rfl (by omega) _ h0))))))

theorem found_apply (tab : FVec Ideal S64x128 .f32) (e : FVec Ideal S64x64 .f32) (C : Nat) (r l : Fin 64)
    (hC : ∀ b (hb : b < 128), tab (ix2 r ⟨b, hb⟩) ≤ e (ix2 r l) ↔ b < C) (hC' : C ≤ 128) :
    found tab e (ix2 r l) = BitVec.ofNat 32 C := by
  obtain ⟨n, hp, h1, h2, h3⟩ := near_halvings tab e C r l hC hC'
  have hb : n < 128 := by omega
  have hg := pick_apply tab (minsi (halvings tab e) (broadcast S64x64 127#32)) r l n hb
    (by show IntOp.minsi (halvings tab e (ix2 r l)) (BitVec.ofNat 32 127) = _
        rw [hp, PlanTiles.minsi_word (by omega) (by omega)]
        congr 1
        omega)
  show Scalar.select (FloatOps.cmpf .ole (pick tab _ (ix2 r l)) (e (ix2 r l)))
    (IntOp.addi (halvings tab e (ix2 r l)) (BitVec.ofNat 32 1)) (halvings tab e (ix2 r l)) = _
  rw [hg, hp, addi_word, select_ole]
  simp only [hC _ hb]
  split
  · congr 1; omega
  · congr 1; omega

theorem block_apply (tab : FVec Ideal S64x128 .f32) (e : FVec Ideal S64x64 .f32) (C : Nat) (r l : Fin 64)
    (hC : ∀ b (hb : b < 128), tab (ix2 r ⟨b, hb⟩) ≤ e (ix2 r l) ↔ b < C) (hC' : C ≤ 128) :
    block tab e (ix2 r l) = BitVec.ofNat 32 (C - 1) := by
  show IntOp.maxsi (found tab e (ix2 r l) - 1#32) 0#32 = _
  rw [found_apply tab e C r l hC hC', Routing.maxsi_pred (by omega)]

theorem inside_apply (p3 : FVec Ideal S64x128 .f32) (e : FVec Ideal S64x64 .f32) (blk : IVec S64x64 32) (r l : Fin 64)
    (b : Nat) (hb : b < 128) (hblk : blk (ix2 r l) = BitVec.ofNat 32 b) (N : Nat)
    (hN : ∀ s (hs : s < 64), p3 (ix2 ⟨s, hs⟩ ⟨b, hb⟩) ≤ e (ix2 r l) ↔ 64 * b + s < N) (s : Nat) (hs : s ≤ 64) :
    inside p3 e blk s hs (ix2 r l) = BitVec.ofNat 32 (min s (N - 64 * b)) := by
  induction s with
  | zero => simp [inside, broadcast]
  | succ s ih =>
    have hg := pick_apply (broadcastTo S64x128 (shapeCast S1x128 (extractStridedSlice S1x128 ![s, 0] p3 (slices_row s (by omega)))
        shapeCasts_S1x128_S1x128) broadcasts_S1x128_S64x128) blk r l b hb hblk
    have hr : broadcastTo S64x128 (shapeCast S1x128 (extractStridedSlice S1x128 ![s, 0] p3 (slices_row s (by omega)))
        shapeCasts_S1x128_S1x128) broadcasts_S1x128_S64x128 (ix2 r ⟨b, hb⟩) = p3 (ix2 ⟨s, by omega⟩ ⟨b, hb⟩) := by
      pointwise
    show IntOp.addi (inside p3 e blk s _ (ix2 r l)) (Scalar.select (FloatOps.cmpf .ole (pick _ blk (ix2 r l)) (e (ix2 r l)))
      (BitVec.ofNat 32 1) (BitVec.ofNat 32 0)) = _
    rw [hg, hr, ih (by omega), select_ole]
    simp only [hN s (by omega)]
    split
    · rw [addi_word]; congr 1; omega
    · rw [addi_word]; congr 1; omega

/-- The rank found is the number of returns at most the edge. -/
theorem rank_apply (tab p3 : FVec Ideal S64x128 .f32) (e : FVec Ideal S64x64 .f32) (r l : Fin 64)
    (N : Nat) (hN : N ≤ 8192)
    (hq : ∀ b (hb : b < 128), tab (ix2 r ⟨b, hb⟩) ≤ e (ix2 r l) ↔ 64 * b < N)
    (hp : ∀ s (hs : s < 64) b (hb : b < 128), p3 (ix2 ⟨s, hs⟩ ⟨b, hb⟩) ≤ e (ix2 r l) ↔ 64 * b + s < N) :
    rank p3 e (block tab e) (ix2 r l) = ((N : ℝ) : EReal) := by
  have hblk := block_apply tab e ((N + 63) / 64) r l (fun b hb => by rw [hq b hb]; omega) (by omega)
  have hin := inside_apply p3 e (block tab e) r l ((N + 63) / 64 - 1) (by omega) hblk N (fun s hs => hp s hs _ _) 64 le_rfl
  show (((IntOp.addi (IntOp.muli (BitVec.ofNat 32 64) (block tab e (ix2 r l))) (inside p3 e (block tab e) 64 _ (ix2 r l))).toInt : ℝ) : EReal) = _
  rw [hin, hblk, muli_word, addi_word]
  have : 64 * ((N + 63) / 64 - 1) + min 64 (N - 64 * ((N + 63) / 64 - 1)) = N := by omega
  rw [this, BitVec.toInt_eq_toNat_of_lt (by simp only [BitVec.toNat_ofNat]; omega), BitVec.toNat_ofNat, Nat.mod_eq_of_lt (by omega)]
  simp

end Cert.KernelIdeal.Hist
-- ==== Proof.Packed.lean ====
/- The packed histogram: four byte counters to a word, added over the slices of 128 columns, opened
   into pairs of half words and added over the lanes, count every bin exactly. -/
module

public import proofs.«01_k».proof.Proof.Body
public import Idealize.ShloMosaic.Lib.PackedFields
public import Idealize.ShloMosaic.Lib.WordSum
public import Idealize.ShloMosaic.Lib.Pointwise

@[expose] public section

noncomputable section

namespace Cert.KernelIdeal.Hist

open Idealize.ShloMosaic Idealize.ShloMosaic.PackedFields Cert.KernelIdeal Cert.KernelIdeal.Gen

/-- One when the `t`-th word is `v`. -/
def hit (x : ℕ → BitVec 32) (v t : ℕ) : ℕ := if (x t).toNat = v then 1 else 0

/-- How many of the first 8192 words are `v`. -/
def count (x : ℕ → BitVec 32) (v : ℕ) : ℕ := ∑ t ∈ Finset.range 8192, hit x v t

/-- How many of the words in lane `l` of `n` slices from slice `o` on are `v`. -/
def laneCount (x : ℕ → BitVec 32) (v o n l : ℕ) : ℕ := ∑ j ∈ Finset.range n, hit x v (128 * (o + j) + l)

theorem hit_le (x : ℕ → BitVec 32) (v t : ℕ) : hit x v t ≤ 1 := by
  unfold hit
  split <;> omega

theorem laneCount_le (x : ℕ → BitVec 32) (v o n l : ℕ) : laneCount x v o n l ≤ n := by
  unfold laneCount
  refine (Finset.sum_le_sum (fun j _ => hit_le x v _)).trans ?_
  simp

theorem laneCount_add (x : ℕ → BitVec 32) (v o n m l : ℕ) :
    laneCount x v o (n + m) l = laneCount x v o n l + laneCount x v (o + n) m l := by
  unfold laneCount
  rw [Finset.sum_range_add]
  simp only [Nat.add_assoc]

theorem count_le (x : ℕ → BitVec 32) (v : ℕ) : count x v ≤ 8192 := by
  unfold count
  refine (Finset.sum_le_sum (fun j _ => hit_le x v _)).trans ?_
  simp

/-- The lanes' counts add up to the whole count. -/
theorem sum_laneCount (x : ℕ → BitVec 32) (v : ℕ) : ∑ l : Fin 128, laneCount x v 0 64 l = count x v := by
  unfold laneCount count
  simp only [Finset.sum_range]
  rw [Finset.sum_comm]
  rw [← Equiv.sum_comp (finProdFinEquiv : Fin 64 × Fin 128 ≃ Fin 8192) (fun t => hit x v t), Fintype.sum_prod_type]
  refine Finset.sum_congr rfl fun j _ => Finset.sum_congr rfl fun l _ => ?_
  congr 1
  show 128 * (0 + (j : ℕ)) + (l : ℕ) = (l : ℕ) + 128 * (j : ℕ)
  omega

/-- A word is its four bytes. -/
theorem word_of_bytes (n : ℕ) (h : n < 2 ^ 32) :
    n = field 8 0 n + 256 * field 8 1 n + 65536 * field 8 2 n + 16777216 * field 8 3 n := by
  simp only [field_eq_div]
  norm_num at h ⊢
  omega

/-- The bytes of a word that is written by its bytes. -/
theorem bytes_of_word (c0 c1 c2 c3 : ℕ) (h0 : c0 < 256) (h1 : c1 < 256) (h2 : c2 < 256) (h3 : c3 < 256) :
    field 8 0 (c0 + 256 * c1 + 65536 * c2 + 16777216 * c3) = c0
      ∧ field 8 1 (c0 + 256 * c1 + 65536 * c2 + 16777216 * c3) = c1
      ∧ field 8 2 (c0 + 256 * c1 + 65536 * c2 + 16777216 * c3) = c2
      ∧ field 8 3 (c0 + 256 * c1 + 65536 * c2 + 16777216 * c3) = c3 := by
  simp only [field_eq_div]
  norm_num
  refine ⟨?_, ?_, ?_, ?_⟩ <;> omega

/-- A word is its two half words. -/
theorem word_of_halves (n : ℕ) (h : n < 2 ^ 32) : n = field 16 0 n + 65536 * field 16 1 n := by
  simp only [field_eq_div]
  norm_num at h ⊢
  omega

/-- Shifting a word with a clear top bit arithmetically is shifting it. -/
theorem shrsi_clear (a : BitVec 32) (h : a.toNat < 2 ^ 31) (k : BitVec 32) (hk : k.toNat < 32) :
    IntOp.shrsi .vector a k = IntOp.shrui .vector a k := by
  unfold IntOp.shrsi IntOp.shrui
  rw [if_pos hk, if_pos hk, BitVec.sshiftRight_eq', BitVec.ushiftRight_eq', BitVec.sshiftRight_eq_of_msb_false]
  rw [BitVec.msb_eq_decide]
  simp only [decide_eq_false_iff_not, not_le]
  exact h

section Row

variable {pw gr : IVec S64x8192 32} {r : Fin 64} {x : ℕ → BitVec 32}
  (hpw : ∀ t (ht : t < 8192), pw (ix2 r ⟨t, ht⟩)
    = IntOp.shli .vector 1#32 (IntOp.shli .vector (IntOp.andi (x t) 3#32) 3#32))
  (hgr : ∀ t (ht : t < 8192), gr (ix2 r ⟨t, ht⟩) = IntOp.shrsi .vector (x t) 2#32)

include hpw hgr

theorem select_toNat (g : ℕ) (hg : g < 16) (t : ℕ) (ht : t < 8192) :
    ((select (cmpi .eq gr (broadcast S64x8192 (BitVec.ofNat 32 g))) pw (broadcast S64x8192 0#32)) (ix2 r ⟨t, ht⟩)).toNat
      = hit x (4 * g) t + 256 * hit x (4 * g + 1) t + 65536 * hit x (4 * g + 2) t + 16777216 * hit x (4 * g + 3) t := by
  show (Scalar.select (IntOp.cmpi .eq (gr (ix2 r ⟨t, ht⟩)) (BitVec.ofNat 32 g)) (pw (ix2 r ⟨t, ht⟩)) 0#32).toNat = _
  rw [hpw t ht, hgr t ht]
  have f := fun i (hi : i < 4) => field_oneHot (u := .vector) (x t) 2 3 g i (by norm_num) (by norm_num; omega) (by norm_num; omega)
  rw [word_of_bytes _ (BitVec.isLt _)]
  have f0 := f 0 (by norm_num)
  have f1 := f 1 (by norm_num)
  have f2 := f 2 (by norm_num)
  have f3 := f 3 (by norm_num)
  norm_num at f0 f1 f2 f3
  unfold hit
  rw [f0, f1, f2, f3]

theorem tree_toNat (g : ℕ) (hg : g < 16) (k : ℕ) : ∀ (o : ℕ) (h : o + 2 ^ k ≤ 64) (l : Fin 128),
    (tree (select (cmpi .eq gr (broadcast S64x8192 (BitVec.ofNat 32 g))) pw (broadcast S64x8192 0#32)) k o h (ix2 r l)).toNat
      = laneCount x (4 * g) o (2 ^ k) l + 256 * laneCount x (4 * g + 1) o (2 ^ k) l
        + 65536 * laneCount x (4 * g + 2) o (2 ^ k) l + 16777216 * laneCount x (4 * g + 3) o (2 ^ k) l := by
  induction k with
  | zero =>
    intro o h l
    have ht : 128 * o + (l : ℕ) < 8192 := by omega
    have e : tree (select (cmpi .eq gr (broadcast S64x8192 (BitVec.ofNat 32 g))) pw (broadcast S64x8192 0#32)) 0 o h (ix2 r l)
        = (select (cmpi .eq gr (broadcast S64x8192 (BitVec.ofNat 32 g))) pw (broadcast S64x8192 0#32)) (ix2 r ⟨128 * o + l, ht⟩) := by
      unfold tree
      refine congrArg (select (cmpi .eq gr (broadcast S64x8192 (BitVec.ofNat 32 g))) pw (broadcast S64x8192 0#32)) ?_
      funext a
      apply Fin.ext
      fin_cases a
      · show 0 + (r : ℕ) = r
        omega
      · rfl
    rw [e, select_toNat hpw hgr g hg _ ht]
    simp [laneCount]
  | succ k ih =>
    intro o h l
    have hk : 2 ^ (k + 1) = 2 ^ k + 2 ^ k := by rw [pow_succ]; omega
    show (IntOp.addi (tree _ k o _ (ix2 r l)) (tree _ k (o + 2 ^ k) _ (ix2 r l))).toNat = _
    unfold IntOp.addi
    rw [BitVec.toNat_add, ih, ih, hk]
    simp only [laneCount_add]
    have b := fun v o => laneCount_le x v o (2 ^ k) l
    have b0 := b (4 * g) o
    have b1 := b (4 * g + 1) o
    have b2 := b (4 * g + 2) o
    have b3 := b (4 * g + 3) o
    have d0 := b (4 * g) (o + 2 ^ k)
    have d1 := b (4 * g + 1) (o + 2 ^ k)
    have d2 := b (4 * g + 2) (o + 2 ^ k)
    have d3 := b (4 * g + 3) (o + 2 ^ k)
    generalize laneCount x (4 * g) o (2 ^ k) l = c0 at *
    generalize laneCount x (4 * g + 1) o (2 ^ k) l = c1 at *
    generalize laneCount x (4 * g + 2) o (2 ^ k) l = c2 at *
    generalize laneCount x (4 * g + 3) o (2 ^ k) l = c3 at *
    generalize laneCount x (4 * g) (o + 2 ^ k) (2 ^ k) l = e0 at *
    generalize laneCount x (4 * g + 1) (o + 2 ^ k) (2 ^ k) l = e1 at *
    generalize laneCount x (4 * g + 2) (o + 2 ^ k) (2 ^ k) l = e2 at *
    generalize laneCount x (4 * g + 3) (o + 2 ^ k) (2 ^ k) l = e3 at *
    rw [Nat.mod_eq_of_lt (by omega)]
    ring

/-- The packed word of a lane, by its bytes. -/
theorem packed_toNat (g : ℕ) (hg : g < 16) (l : Fin 128) :
    (packed pw gr (BitVec.ofNat 32 g) (ix2 r l)).toNat
      = laneCount x (4 * g) 0 64 l + 256 * laneCount x (4 * g + 1) 0 64 l
        + 65536 * laneCount x (4 * g + 2) 0 64 l + 16777216 * laneCount x (4 * g + 3) 0 64 l :=
  tree_toNat hpw hgr g hg 6 0 (by decide) l

theorem packed_lt (g : ℕ) (hg : g < 16) (l : Fin 128) : (packed pw gr (BitVec.ofNat 32 g) (ix2 r l)).toNat < 2 ^ 31 := by
  rw [packed_toNat hpw hgr g hg l]
  have b := fun v => laneCount_le x v 0 64 l
  have b0 := b (4 * g)
  have b1 := b (4 * g + 1)
  have b2 := b (4 * g + 2)
  have b3 := b (4 * g + 3)
  omega

theorem packed_bytes (g : ℕ) (hg : g < 16) (l : Fin 128) :
    field 8 0 (packed pw gr (BitVec.ofNat 32 g) (ix2 r l)).toNat = laneCount x (4 * g) 0 64 l
      ∧ field 8 1 (packed pw gr (BitVec.ofNat 32 g) (ix2 r l)).toNat = laneCount x (4 * g + 1) 0 64 l
      ∧ field 8 2 (packed pw gr (BitVec.ofNat 32 g) (ix2 r l)).toNat = laneCount x (4 * g + 2) 0 64 l
      ∧ field 8 3 (packed pw gr (BitVec.ofNat 32 g) (ix2 r l)).toNat = laneCount x (4 * g + 3) 0 64 l := by
  rw [packed_toNat hpw hgr g hg l]
  have b := fun v => laneCount_le x v 0 64 l
  have b0 := b (4 * g)
  have b1 := b (4 * g + 1)
  have b2 := b (4 * g + 2)
  have b3 := b (4 * g + 3)
  exact bytes_of_word _ _ _ _ (by omega) (by omega) (by omega) (by omega)

omit hpw hgr in
/-- A sum over the lanes whose words hold two counts holds the two whole counts. -/
theorem rowSum_toNat (w : IVec S64x128 32) (v v' : ℕ)
    (h : ∀ l : Fin 128, (w (ix2 r l)).toNat = laneCount x v 0 64 l + 65536 * laneCount x v' 0 64 l) (u : Fin 1) :
    (shapeCast S64x1 (multiReductionI .add [1] S64 w 0#32 reduces_S64x128_S64 rfl) shapeCasts_S64_S64x1 (ix2 r u)).toNat
      = count x v + 65536 * count x v' := by
  have e : shapeCast S64x1 (multiReductionI .add [1] S64 w 0#32 reduces_S64x128_S64 rfl) shapeCasts_S64_S64x1 (ix2 r u)
      = Finset.univ.fold IntOp.addi 0 fun k : Fin 128 => w (ix2 r k) := by
    pointwise
    rfl
  rw [e]
  have e' : (Finset.univ.fold IntOp.addi 0 fun k : Fin 128 => w (ix2 r k)) = ∑ k : Fin 128, w (ix2 r k) := rfl
  have s : ∑ k : Fin 128, (w (ix2 r k)).toNat = count x v + 65536 * count x v' := by
    rw [← sum_laneCount, ← sum_laneCount, Finset.mul_sum, ← Finset.sum_add_distrib]
    exact Finset.sum_congr rfl fun l _ => h l
  rw [e', WordSum.toNat_sum, s]
  rw [s]
  have := count_le x v
  have := count_le x v'
  omega

theorem evens_toNat (g : ℕ) (hg : g < 16) (u : Fin 1) :
    (evens (packed pw gr (BitVec.ofNat 32 g)) (ix2 r u)).toNat = count x (4 * g) + 65536 * count x (4 * g + 2) := by
  refine rowSum_toNat _ _ _ (fun l => ?_) u
  obtain ⟨h0, h1, h2, h3⟩ := packed_bytes hpw hgr g hg l
  show (IntOp.andi (packed pw gr (BitVec.ofNat 32 g) (ix2 r l)) 16711935#32).toNat = _
  rw [word_of_halves _ (BitVec.isLt _)]
  have m : IsEvenMask 32 8 (16711935#32 : BitVec 32).toNat := isEvenMask_8
  have a0 := field_andi_even m 0 (packed pw gr (BitVec.ofNat 32 g) (ix2 r l))
  have a1 := field_andi_even m 1 (packed pw gr (BitVec.ofNat 32 g) (ix2 r l))
  norm_num at a0 a1
  rw [a0, a1, h0, h2]

theorem odds_toNat (g : ℕ) (hg : g < 16) (u : Fin 1) :
    (odds (packed pw gr (BitVec.ofNat 32 g)) (ix2 r u)).toNat = count x (4 * g + 1) + 65536 * count x (4 * g + 3) := by
  refine rowSum_toNat _ _ _ (fun l => ?_) u
  obtain ⟨h0, h1, h2, h3⟩ := packed_bytes hpw hgr g hg l
  show (IntOp.andi (IntOp.shrsi .vector (packed pw gr (BitVec.ofNat 32 g) (ix2 r l)) 8#32) 16711935#32).toNat = _
  rw [shrsi_clear _ (packed_lt hpw hgr g hg l) _ (by decide), word_of_halves _ (BitVec.isLt _)]
  have m : IsEvenMask 32 8 (16711935#32 : BitVec 32).toNat := isEvenMask_8
  have a0 := field_shrui_andi_odd (u := .vector) m (by norm_num) 0 (packed pw gr (BitVec.ofNat 32 g) (ix2 r l))
  have a1 := field_shrui_andi_odd (u := .vector) m (by norm_num) 1 (packed pw gr (BitVec.ofNat 32 g) (ix2 r l))
  norm_num at a0 a1
  rw [a0, a1, h1, h3]

omit hpw hgr in
/-- The low half of two packed counts. -/
theorem lowHalf_toNat (s : IVec S64x1 32) (v v' : ℕ) (u : Fin 1)
    (h : (s (ix2 r u)).toNat = count x v + 65536 * count x v') : (lowHalf s (ix2 r u)).toNat = count x v := by
  show (IntOp.andi (s (ix2 r u)) 65535#32).toNat = _
  rw [toNat_andi_low16, h, field_eq_div]
  have := count_le x v
  norm_num
  omega

omit hpw hgr in
/-- The high half of two packed counts. -/
theorem highHalf_toNat (s : IVec S64x1 32) (v v' : ℕ) (u : Fin 1)
    (h : (s (ix2 r u)).toNat = count x v + 65536 * count x v') : (highHalf s (ix2 r u)).toNat = count x v' := by
  have := count_le x v
  have := count_le x v'
  show (IntOp.shrsi .vector (s (ix2 r u)) 16#32).toNat = _
  rw [shrsi_clear _ (by rw [h]; omega) _ (by decide), toNat_shrui_high16, h, field_eq_div]
  norm_num
  omega

omit hpw hgr in
/-- Lane `l` after a count was put into lane `j`. -/
theorem put_apply (it : IVec S64x64 32) (l : Fin 64) (hit' : it (ix2 r l) = BitVec.ofNat 32 l) (j : ℕ) (hj : j < 64)
    (c : IVec S64x1 32) (n : ℕ) (hc : (c (ix2 r 0)).toNat = n) (hn : n ≤ 8192) (acc : FVec Ideal S64x64 .f32) :
    put (F := Ideal) it (BitVec.ofNat 32 j) c acc (ix2 r l)
      = acc (ix2 r l) + if (l : ℕ) = j then ((n : ℝ) : EReal) else 0 := by
  have e : broadcastTo S64x64 (shapeCast S64x1 (sitofp (F := Ideal) .f32 c) shapeCasts_S64x1_S64x1) broadcasts_S64x1_S64x64 (ix2 r l)
      = sitofp (F := Ideal) .f32 c (ix2 r 0) := by
    pointwise
  have ec : sitofp (F := Ideal) .f32 c (ix2 r 0) = ((n : ℝ) : EReal) := by
    show (((c (ix2 r 0)).toInt : ℝ) : EReal) = _
    rw [BitVec.toInt_eq_toNat_of_lt (by rw [hc]; omega), hc]
    norm_cast
  show acc (ix2 r l) + Scalar.select (IntOp.cmpi .eq (it (ix2 r l)) (BitVec.ofNat 32 j)) _ (Ideal.ofBits .f32 0x00000000#32) = _
  rw [e, ec, hit']
  congr 1
  have z : Ideal.ofBits .f32 0x00000000#32 = 0 := Ideal.ofBits_zero .f32
  rw [z]
  unfold Scalar.select IntOp.cmpi
  by_cases hl : (l : ℕ) = j
  · simp [hl]
  · have : BitVec.ofNat 32 (l : ℕ) ≠ BitVec.ofNat 32 j := by
      intro hh
      have := congrArg BitVec.toNat hh
      rw [BitVec.toNat_ofNat, BitVec.toNat_ofNat] at this
      omega
    simp only [if_neg hl]
    rw [if_neg]
    rw [beq_eq_false_iff_ne.mpr this]
    decide

/-- The lanes after the first groups hold the counts of those groups' bins. -/
theorem lanes_apply (it : IVec S64x64 32) (l : Fin 64) (hit' : it (ix2 r l) = BitVec.ofNat 32 l) :
    ∀ g : ℕ, g ≤ 15 → lanes (F := Ideal) it pw gr g (ix2 r l) = if (l : ℕ) < 4 * g then ((count x l : ℝ) : EReal) else 0
  | 0, _ => by
    show Ideal.ofBits .f32 0x00000000#32 = _
    rw [Ideal.ofBits_zero, if_neg (by omega)]
  | g + 1, h => by
    unfold lanes
    rw [put_apply it l hit' _ (by omega) _ _ (highHalf_toNat _ _ _ 0 (odds_toNat hpw hgr g (by omega) 0)) (count_le x _),
      put_apply it l hit' _ (by omega) _ _ (highHalf_toNat _ _ _ 0 (evens_toNat hpw hgr g (by omega) 0)) (count_le x _),
      put_apply it l hit' _ (by omega) _ _ (lowHalf_toNat _ _ _ 0 (odds_toNat hpw hgr g (by omega) 0)) (count_le x _),
      put_apply it l hit' _ (by omega) _ _ (lowHalf_toNat _ _ _ 0 (evens_toNat hpw hgr g (by omega) 0)) (count_le x _),
      lanes_apply it l hit' g (by omega)]
    rcases Nat.lt_or_ge l (4 * g) with hl | hl
    · rw [if_pos hl, if_neg (by omega), if_neg (by omega), if_neg (by omega), if_neg (by omega), if_pos (by omega)]
      simp only [add_zero]
    · rw [if_neg (by omega)]
      rcases Nat.lt_or_ge l (4 * (g + 1)) with hl' | hl'
      · rw [if_pos hl']
        obtain h0 | h0 | h0 | h0 : (l : ℕ) = 4 * g ∨ (l : ℕ) = 4 * g + 1 ∨ (l : ℕ) = 4 * g + 2 ∨ (l : ℕ) = 4 * g + 3 := by omega
        · rw [if_pos h0, if_neg (by omega), if_neg (by omega), if_neg (by omega), h0]
          simp only [add_zero, zero_add]
        · rw [if_neg (by omega), if_pos h0, if_neg (by omega), if_neg (by omega), h0]
          simp only [add_zero, zero_add]
        · rw [if_neg (by omega), if_neg (by omega), if_pos h0, if_neg (by omega), h0]
          simp only [add_zero, zero_add]
        · rw [if_neg (by omega), if_neg (by omega), if_neg (by omega), if_pos h0, h0]
          simp only [add_zero, zero_add]
      · rw [if_neg (by omega), if_neg (by omega), if_neg (by omega), if_neg (by omega), if_neg (by omega)]
        simp only [add_zero]

/-- The histogram lanes: the count of every bin, and zero past the last bin. -/
theorem histogram_apply (it : IVec S64x64 32) (l : Fin 64) (hit' : it (ix2 r l) = BitVec.ofNat 32 l) :
    put (F := Ideal) it 48#32 (lowHalf (evens (packed pw gr 12#32))) (lanes it pw gr 12) (ix2 r l)
      = if (l : ℕ) ≤ 48 then ((count x l : ℝ) : EReal) else 0 := by
  have p := put_apply it l hit' 48 (by norm_num) _ _ (lowHalf_toNat _ _ _ 0 (evens_toNat hpw hgr 12 (by norm_num) 0)) (count_le x _)
    (lanes (F := Ideal) it pw gr 12)
  rw [lanes_apply hpw hgr it l hit' 12 (by norm_num)] at p
  refine p.trans ?_
  by_cases h48 : (l : ℕ) = 48
  · rw [if_neg (by omega), if_pos h48, if_pos (by omega), h48, zero_add]
  · by_cases hl : (l : ℕ) < 48
    · rw [if_pos (by omega), if_neg h48, if_pos (by omega), add_zero]
    · rw [if_neg (by omega), if_neg h48, if_neg (by omega), add_zero]

end Row

end Cert.KernelIdeal.Hist

end
-- ==== Proof.Bins.lean ====
/- The bins: which bin a return falls in, what the width of a bin can be, and how many returns lie at
   or below the upper edge of a bin, in extended reals. -/
module

public import proofs.«01_k».proof.Proof.Packed

@[expose] public section

noncomputable section

namespace Cert.KernelIdeal.Hist

open Idealize.ShloMosaic

/-- The bin of `z`, for the least value `lo` and the width `W`: the whole part of the quotient, held between 0 and 48. -/
def binWord (lo W z : EReal) : BitVec 32 :=
  IntOp.minsi 48#32 (IntOp.maxsi 0#32 (Ideal.fptosi 32 (Ideal.liftRound Int.floor (Ideal.div (z - lo) W))))

theorem binWord_le (lo W z : EReal) : (binWord lo W z).toNat ≤ 48 := by
  unfold binWord
  generalize Ideal.fptosi 32 (Ideal.liftRound Int.floor (Ideal.div (z - lo) W)) = a
  unfold IntOp.minsi IntOp.maxsi
  simp only [BitVec.slt, decide_eq_true_eq]
  have e48 : (48#32 : BitVec 32).toInt = 48 := by decide
  have e0 : (0#32 : BitVec 32).toInt = 0 := by decide
  have ea := BitVec.toInt_eq_toNat_cond a
  rw [e48, e0]
  split_ifs at * <;> first | decide | omega

/-- The bin of a return between the least and the greatest value. -/
theorem binWord_real (lo w z : ℝ) (hw : 0 < w) (h0 : lo ≤ z) (h1 : z ≤ lo + 49 * w) :
    (binWord lo w z).toNat = min 48 ⌊(z - lo) / w⌋₊ := by
  have hu : 0 ≤ (z - lo) / w := div_nonneg (by linarith) hw.le
  have hu' : (z - lo) / w ≤ 49 := by rw [div_le_iff₀ hw]; linarith
  have hn : ⌊(z - lo) / w⌋₊ ≤ 49 := Nat.floor_le_of_le (by exact_mod_cast hu')
  have hf : ⌊(z - lo) / w⌋ = ((⌊(z - lo) / w⌋₊ : ℕ) : ℤ) := (Int.natCast_floor_eq_floor hu).symm
  unfold binWord
  rw [← EReal.coe_sub, Ideal.div_coe hw.ne', ← EReal.coe_mul, mul_one_div, Ideal.liftRound_coe, hf]
  generalize ⌊(z - lo) / w⌋₊ = n at hn
  have e : Ideal.fptosi 32 ((((n : ℤ) : ℝ) : ℝ) : EReal) = BitVec.ofNat 32 n := by
    unfold Ideal.fptosi
    have : Ideal.toIntClamped (-(2 ^ (32 - 1) : ℕ)) ((2 ^ (32 - 1) : ℕ) - 1) ((((n : ℤ) : ℝ) : ℝ) : EReal) = (n : ℤ) := by
      show max _ (min _ (if (0 : ℝ) ≤ ((n : ℤ) : ℝ) then ⌊((n : ℤ) : ℝ)⌋ else ⌈((n : ℤ) : ℝ)⌉)) = _
      rw [if_pos (by exact_mod_cast Nat.zero_le n), Int.floor_intCast]
      norm_num
      omega
    rw [this]
    simp
  rw [e]
  interval_cases n <;> decide

/-- A return lies at or below the upper edge of bin `j`, one of the edges that two bins share, exactly when its
    bin is at most `j`: the return is not on that edge. -/
theorem le_edge_iff (lo w z : ℝ) (hw : 0 < w) (h0 : lo ≤ z) (h1 : z ≤ lo + 49 * w) (j : ℕ) (hj : j ≤ 47)
    (miss : (z - lo) / w ≠ ((j + 1 : ℕ) : ℝ)) :
    (z : EReal) ≤ (lo : EReal) + (((j + 1 : ℕ) : ℝ) : EReal) * (w : EReal) ↔ (binWord lo w z).toNat ≤ j := by
  have hu : 0 ≤ (z - lo) / w := div_nonneg (by linarith) hw.le
  rw [binWord_real lo w z hw h0 h1, ← EReal.coe_mul, ← EReal.coe_add, EReal.coe_le_coe_iff]
  have e : z ≤ lo + ((j + 1 : ℕ) : ℝ) * w ↔ (z - lo) / w ≤ ((j + 1 : ℕ) : ℝ) := by
    rw [div_le_iff₀ hw]
    constructor <;> intro h <;> linarith
  have e' : (z - lo) / w ≤ ((j + 1 : ℕ) : ℝ) ↔ (z - lo) / w < ((j + 1 : ℕ) : ℝ) :=
    ⟨fun h => lt_of_le_of_ne h miss, le_of_lt⟩
  rw [e, e', ← Nat.floor_lt hu]
  omega

/-- What the precondition says of one return. -/
def Misses (u : EReal) : Prop := u ≠ Ideal.liftRound Int.floor u ∨ u ≤ 0 ∨ ((49 : ℝ) : EReal) ≤ u

theorem Misses.ne {u : ℝ} (h : Misses (u : EReal)) (j : ℕ) (hj : j ≤ 47) : u ≠ ((j + 1 : ℕ) : ℝ) := by
  rintro rfl
  rcases h with h | h | h
  · apply h
    rw [Ideal.liftRound_coe, ← Int.cast_natCast (R := ℝ) (j + 1), Int.floor_intCast]
  · rw [← EReal.coe_zero, EReal.coe_le_coe_iff] at h
    have : (0 : ℝ) < ((j + 1 : ℕ) : ℝ) := by positivity
    linarith
  · rw [EReal.coe_le_coe_iff] at h
    have : ((j + 1 : ℕ) : ℝ) ≤ 48 := by exact_mod_cast (by omega : j + 1 ≤ 48)
    linarith

/-- The width of a bin: infinite, or the least and the greatest value are reals 49 widths apart. -/
theorem width_cases (lo hi : EReal) (h : lo ≤ hi) :
    (∃ l w : ℝ, lo = l ∧ hi = ((l + 49 * w : ℝ) : EReal) ∧ Ideal.div (hi - lo) ((49 : ℝ) : EReal) = w ∧ 0 ≤ w)
      ∨ Ideal.div (hi - lo) ((49 : ℝ) : EReal) = ⊤ ∨ Ideal.div (hi - lo) ((49 : ℝ) : EReal) = ⊥ := by
  rw [Ideal.div_coe (by norm_num)]
  have pos : (0 : ℝ) < 1 / 49 := by norm_num
  induction lo with
  | bot =>
    right
    by_cases hb : hi = ⊥
    · right
      rw [hb, EReal.bot_sub, EReal.bot_mul_coe_of_pos pos]
    · left
      rw [EReal.sub_bot hb, EReal.top_mul_coe_of_pos pos]
  | top =>
    right
    right
    have hb : hi = ⊤ := top_le_iff.mp h
    rw [hb]
    have : (⊤ : EReal) - ⊤ = ⊥ := rfl
    rw [this, EReal.bot_mul_coe_of_pos pos]
  | coe l =>
    induction hi with
    | bot => exact absurd h (by simp)
    | top =>
      right
      left
      rw [EReal.top_sub_coe, EReal.top_mul_coe_of_pos pos]
    | coe g =>
      left
      rw [EReal.coe_le_coe_iff] at h
      refine ⟨l, (g - l) * (1 / 49), rfl, ?_, ?_, ?_⟩
      · congr 1
        ring
      · rw [← EReal.coe_sub, ← EReal.coe_mul]
      · have : 0 ≤ g - l := by linarith
        positivity

/-- Dividing by the number of returns times the width is multiplying by a real number, zero when the width is infinite. -/
theorem scale_exists (W : EReal) (hW : W ≠ 0) (h : (∃ w : ℝ, W = w ∧ 0 ≤ w) ∨ W = ⊤ ∨ W = ⊥) :
    ∃ v : ℝ, 0 ≤ v ∧ (∀ c, Ideal.div c (((8192 : ℝ) : EReal) * W) = c * (v : EReal)) ∧ (W = ⊤ ∨ W = ⊥ → v = 0) := by
  have pos : (0 : ℝ) < 8192 := by norm_num
  rcases h with ⟨w, rfl, hw⟩ | rfl | rfl
  · have hw0 : w ≠ 0 := by
      intro hz
      exact hW (by rw [hz, EReal.coe_zero])
    refine ⟨1 / (8192 * w), by positivity, fun c => ?_, fun hh => by simp at hh⟩
    rw [← EReal.coe_mul, Ideal.div_coe (by positivity)]
  · refine ⟨0, le_rfl, fun c => ?_, fun _ => rfl⟩
    rw [EReal.coe_mul_top_of_pos pos]
    unfold Ideal.div
    rw [if_neg (by simp), EReal.inv_top, EReal.coe_zero]
  · refine ⟨0, le_rfl, fun c => ?_, fun _ => rfl⟩
    rw [EReal.coe_mul_bot_of_pos pos]
    unfold Ideal.div
    rw [if_neg (by simp), EReal.inv_bot, EReal.coe_zero]

/-- How many of the first 8192 values are at most `e`. -/
def below (y : ℕ → EReal) (e : EReal) : ℕ := ((Finset.range 8192).filter fun t => y t ≤ e).card

theorem below_le (y : ℕ → EReal) (e : EReal) : below y e ≤ 8192 :=
  (Finset.card_filter_le _ _).trans (by simp)

/-- The counts of the words up to `j` add up to the number of words at most `j`. -/
theorem sum_count (x : ℕ → BitVec 32) (n : ℕ) :
    ∑ i ∈ Finset.range n, count x i = ((Finset.range 8192).filter fun t => (x t).toNat < n).card := by
  unfold count
  rw [Finset.sum_comm, Finset.card_filter]
  refine Finset.sum_congr rfl fun t _ => ?_
  unfold hit
  rw [Finset.sum_ite_eq]
  simp only [Finset.mem_range]

/-- The returns at or below the upper edge of bin `j` are those of the bins up to `j`. -/
theorem below_eq_sum (y : ℕ → EReal) (x : ℕ → BitVec 32) (e : EReal) (j : ℕ)
    (h : ∀ t, y t ≤ e ↔ (x t).toNat ≤ j) : below y e = ∑ i ∈ Finset.range (j + 1), count x i := by
  rw [sum_count]
  unfold below
  simp only [h, Nat.lt_succ_iff]

/-- Every word is in some bin. -/
theorem sum_count_all (x : ℕ → BitVec 32) (h : ∀ t, (x t).toNat ≤ 48) : ∑ i ∈ Finset.range 49, count x i = 8192 := by
  rw [sum_count, Finset.filter_true_of_mem (fun t _ => Nat.lt_succ_of_le (h t)), Finset.card_range]

end Cert.KernelIdeal.Hist

end
-- ==== Proof.Sorted.lean ====
/- The sorted reference returns: the kernel's sort is a monotone rearrangement, so an entry is at most
   an edge exactly when its place is less than the number of returns at most the edge, and its ends
   are the least and the greatest return. -/
module

public import proofs.«01_k».proof.Proof.Bins
public import Idealize.ShloMosaic.Lib.SortFacts

@[expose] public section

noncomputable section

namespace Cert.KernelIdeal.Hist

open Idealize.ShloMosaic Cert.KernelIdeal Cert.KernelIdeal.Gen

/-- The comparator of the sort puts the lesser value first. -/
theorem comparator_apply (l r : EReal) : comparator_f32_d0 (F := Ideal) l r = BitVec.ofBool (decide (l < r)) := by
  unfold comparator_f32_d0
  have z : (FloatOps.ofBits (F := Ideal) .f32 0x00000000#32 : EReal) = 0 := Ideal.ofBits_zero .f32
  have c (a : EReal) : Scalar.select (FloatOps.cmpf (F := Ideal) (φ := .f32) .oeq a (FloatOps.ofBits (F := Ideal) .f32 0x00000000#32))
      (FloatOps.ofBits (F := Ideal) .f32 0x00000000#32) a = a := by
    show Scalar.select (BitVec.ofBool (decide (a = FloatOps.ofBits (F := Ideal) .f32 0x00000000#32))) _ _ = _
    rw [z]
    unfold Scalar.select
    by_cases h : a = 0
    · simp [h]
    · simp [h]
  have u (a b b' : EReal) : Scalar.select (FloatOps.cmpf (F := Ideal) (φ := .f32) .une a a) b b' = b' := by
    show Scalar.select (BitVec.ofBool (decide (a ≠ a))) b b' = b'
    unfold Scalar.select
    simp
  dsimp only
  rw [c, c, u, u]
  rfl

theorem comparator_iff (l r : EReal) : (comparator_f32_d0 (F := Ideal) l r == 1#1) = decide (l < r) := by
  rw [comparator_apply]
  by_cases h : l < r <;> simp [h]

/-- A row's values by place, the places taken around past the last. -/
def byPlace {α : Type} (f : Fin 8192 → α) (t : ℕ) : α := f (Fin.ofNat 8192 t)

theorem byPlace_lt {α : Type} (f : Fin 8192 → α) (t : ℕ) (h : t < 8192) : byPlace f t = f ⟨t, h⟩ := by
  unfold byPlace
  congr 1
  apply Fin.ext
  exact Nat.mod_eq_of_lt h

theorem sort_apply {n : ℕ} (cmp : EReal → EReal → BitVec 1) (x : (⟨1, ![n]⟩ : Shape).Idx → EReal) (k : Fin n) :
    Host.sort ⟨1, ![n]⟩ 0 cmp x (ix1 k) = x (ix1 (sortedFrom (fun k k' => cmp (x (ix1 k)) (x (ix1 k')) == 1#1) k)) := by
  have e : ∀ k : Fin n, (Shape.Idx.ofFin k : (⟨1, ![n]⟩ : Shape).Idx) = ix1 k := fun k => by
    funext a
    match a with
    | ⟨0, _⟩ => rfl
  have h := Host.sort_rank1 cmp x (ix1 k)
  simp only [e] at h
  exact h

theorem card_range {n : ℕ} (p : ℕ → Prop) (q : Fin n → Prop) [DecidablePred p] [DecidablePred q] (h : ∀ k : Fin n, p k ↔ q k) :
    ((Finset.range n).filter p).card = (Finset.univ.filter q).card := by
  rw [Finset.card_filter, Finset.card_filter, Finset.sum_range]
  exact Finset.sum_congr rfl fun t _ => by simp only [h]

theorem card_bijective {n : ℕ} (σ : Fin n → Fin n) (h : Function.Bijective σ) (q : Fin n → Prop) [DecidablePred q] :
    (Finset.univ.filter q).card = (Finset.univ.filter fun k => q (σ k)).card := by
  rw [Finset.card_filter, Finset.card_filter]
  exact (Equiv.sum_comp (Equiv.ofBijective _ h) (fun k => if q k then 1 else 0)).symm

/-- The reference returns in order. -/
def sorted (y : FVec Ideal S8192 .f32) : FVec Ideal S8192 .f32 := Host.sort S8192 0 comparator_f32_d0 y

/-- Where the sort takes its entries from. -/
def source (y : FVec Ideal S8192 .f32) : Fin 8192 → Fin 8192 :=
  sortedFrom fun k k' => comparator_f32_d0 (F := Ideal) (y (ix1 k)) (y (ix1 k')) == 1#1

theorem sorted_apply (y : FVec Ideal S8192 .f32) (k : Fin 8192) : sorted y (ix1 k) = y (ix1 (source y k)) := by
  unfold sorted source
  exact sort_apply _ _ _

theorem source_bijective (y : FVec Ideal S8192 .f32) : Function.Bijective (source y) :=
  ⟨sortedFrom_injective _, sortedFrom_surjective _⟩

theorem sorted_mono (y : FVec Ideal S8192 .f32) (i j : Fin 8192) (h : i ≤ j) : sorted y (ix1 i) ≤ sorted y (ix1 j) := by
  rcases h.lt_or_eq with h | rfl
  · rw [sorted_apply, sorted_apply]
    have n := sortedFrom_noInversion (fun k k' => comparator_f32_d0 (F := Ideal) (y (ix1 k)) (y (ix1 k')) == 1#1)
      (fun k k' => comparator_f32_d0 (F := Ideal) (y (ix1 k)) (y (ix1 k')) == 1#1) ?_ ?_ ?_ i j h
    · simp only [comparator_iff, decide_eq_false_iff_not, not_lt] at n
      unfold source
      simp only [comparator_iff]
      exact n
    · intro a b hab
      simp only [comparator_iff, decide_eq_true_eq, decide_eq_false_iff_not] at hab ⊢
      exact lt_asymm hab
    · intro a b hab
      exact hab
    · intro a b c hab hbc
      simp only [comparator_iff, decide_eq_false_iff_not, not_lt] at hab hbc ⊢
      exact hbc.trans hab
  · exact le_rfl

/-- The number of returns at most `e`, counted over the sorted table. -/
theorem below_sorted (y : FVec Ideal S8192 .f32) (e : EReal) :
    below (byPlace fun k => y (ix1 k)) e = (Finset.univ.filter fun k : Fin 8192 => sorted y (ix1 k) ≤ e).card := by
  have a : below (byPlace fun k => y (ix1 k)) e = (Finset.univ.filter fun k : Fin 8192 => y (ix1 k) ≤ e).card :=
    card_range _ _ fun k => by rw [byPlace_lt _ _ k.isLt]
  rw [a, card_bijective _ (source_bijective y)]
  simp only [sorted_apply]

/-- An entry of the sorted table is at most `e` exactly when its place is less than the number of returns at most `e`. -/
theorem sorted_le_iff (y : FVec Ideal S8192 .f32) (e : EReal) (k : Fin 8192) :
    sorted y (ix1 k) ≤ e ↔ (k : ℕ) < below (byPlace fun k => y (ix1 k)) e := by
  rw [below_sorted]
  constructor
  · intro h
    have s : Finset.Iic k ⊆ Finset.univ.filter fun k : Fin 8192 => sorted y (ix1 k) ≤ e := by
      intro i hi
      rw [Finset.mem_filter]
      exact ⟨Finset.mem_univ _, (sorted_mono y i k (Finset.mem_Iic.mp hi)).trans h⟩
    have c := Finset.card_le_card s
    rw [Fin.card_Iic] at c
    omega
  · intro h
    by_contra hn
    have s : (Finset.univ.filter fun k : Fin 8192 => sorted y (ix1 k) ≤ e) ⊆ Finset.Iio k := by
      intro i hi
      rw [Finset.mem_filter] at hi
      rw [Finset.mem_Iio]
      by_contra hi'
      exact hn ((sorted_mono y k i (not_lt.mp hi')).trans hi.2)
    have c := Finset.card_le_card s
    rw [Fin.card_Iio] at c
    omega

/-- The first entry is the least return. -/
theorem sorted_first (y : FVec Ideal S8192 .f32) :
    sorted y (ix1 ⟨0, by norm_num⟩) = Finset.univ.fold min ⊤ fun k : Fin 8192 => y (ix1 k) := by
  apply le_antisymm
  · rw [Finset.le_fold_min]
    refine ⟨le_top, fun k _ => ?_⟩
    obtain ⟨i, rfl⟩ := (source_bijective y).2 k
    rw [← sorted_apply y i]
    exact sorted_mono y _ _ (Nat.zero_le _)
  · rw [Finset.fold_min_le]
    right
    exact ⟨_, Finset.mem_univ _, (sorted_apply y _).ge⟩

/-- The last entry is the greatest return. -/
theorem sorted_last (y : FVec Ideal S8192 .f32) :
    sorted y (ix1 ⟨8191, by norm_num⟩) = Finset.univ.fold max ⊥ fun k : Fin 8192 => y (ix1 k) := by
  apply le_antisymm
  · rw [Finset.le_fold_max]
    right
    exact ⟨_, Finset.mem_univ _, (sorted_apply y _).le⟩
  · rw [Finset.fold_max_le]
    refine ⟨bot_le, fun k _ => ?_⟩
    obtain ⟨i, rfl⟩ := (source_bijective y).2 k
    rw [← sorted_apply y i]
    exact sorted_mono y _ _ (Nat.le_of_lt_succ i.isLt)

end Cert.KernelIdeal.Hist

end
-- ==== Proof.Divergence.lean ====
/- The divergence: normalising each histogram and adding up `p log (p / q)` is adding up with the
   unnormalised histograms first and correcting by the two totals once. -/
module

public import Idealize.ShloMosaic.PureOps.Ideal
public import Idealize.ShloMosaic.Lib.Pointwise

@[expose] public section

noncomputable section

namespace Cert.KernelIdeal.Hist

open Idealize.ShloMosaic

theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem log_pos (r : ℝ) (h : 0 < r) : Ideal.log (r : EReal) = (Real.log r : EReal) := by
  rw [Ideal.log_coe, if_neg (not_le.mpr h)]

theorem div_real (x y : ℝ) (h : y ≠ 0) : Ideal.div (x : EReal) (y : EReal) = ((x / y : ℝ) : EReal) := by
  rw [Ideal.div_coe h, ← EReal.coe_mul, mul_one_div]

/-- A sum over the 64 lanes that is zero past the first 49. -/
theorem sum_lanes {M : Type} [AddCommMonoid M] (f : ℕ → M) :
    ∑ l : Fin 64, (if (l : ℕ) < 49 then f l else 0) = ∑ j ∈ Finset.range 49, f j := by
  rw [← Finset.sum_range (fun l => if l < 49 then f l else 0), Finset.sum_ite, Finset.sum_const_zero, add_zero]
  refine Finset.sum_congr ?_ fun _ _ => rfl
  ext j
  simp only [Finset.mem_filter, Finset.mem_range]
  omega

/-- The kernel's order of the divergence. -/
def klLanes (P Q : Fin 64 → EReal) : EReal :=
  Ideal.div (∑ l : Fin 64, P l * Ideal.log (if (l : ℕ) < 49 then Ideal.div (P l) (Q l) else 1)) (∑ l, P l)
    + Ideal.log (Ideal.div (∑ l, Q l) (∑ l, P l))

/-- The reference's order of the divergence. -/
def klBins (p q : Fin 49 → EReal) : EReal :=
  ∑ j : Fin 49, Ideal.div (p j) (∑ i, p i) * Ideal.log (Ideal.div (Ideal.div (p j) (∑ i, p i)) (Ideal.div (q j) (∑ i, q i)))

theorem kl_real (a b : ℕ → ℝ) (ha : ∀ j, 0 < a j) (hb : ∀ j, 0 < b j) (s : Finset ℕ) (hs : s.Nonempty) :
    ∑ j ∈ s, a j / (∑ i ∈ s, a i) * Real.log (a j / (∑ i ∈ s, a i) / (b j / (∑ i ∈ s, b i)))
      = (∑ j ∈ s, a j * Real.log (a j / b j)) / (∑ i ∈ s, a i) + Real.log ((∑ i ∈ s, b i) / (∑ i ∈ s, a i)) := by
  have hA : 0 < ∑ i ∈ s, a i := Finset.sum_pos (fun i _ => ha i) hs
  have hB : 0 < ∑ i ∈ s, b i := Finset.sum_pos (fun i _ => hb i) hs
  have one : ∑ j ∈ s, a j / (∑ i ∈ s, a i) = 1 := by
    rw [← Finset.sum_div, div_self hA.ne']
  generalize (∑ i ∈ s, a i) = A at *
  generalize (∑ i ∈ s, b i) = B at *
  have step : ∀ j ∈ s, a j / A * Real.log (a j / A / (b j / B))
      = a j * Real.log (a j / b j) / A + a j / A * Real.log (B / A) := by
    intro j _
    have e : a j / A / (b j / B) = a j / b j * (B / A) := by
      have := (hb j).ne'
      field_simp
    rw [e, Real.log_mul (div_pos (ha j) (hb j)).ne' (div_pos hB hA).ne']
    ring
  rw [Finset.sum_congr rfl step, Finset.sum_add_distrib, ← Finset.sum_mul, one, one_mul, ← Finset.sum_div]

theorem klLanes_eq (a b : ℕ → ℝ) (ha : ∀ j, 0 < a j) (hb : ∀ j, 0 < b j) (P Q : Fin 64 → EReal)
    (hP : ∀ l : Fin 64, P l = if (l : ℕ) < 49 then ((a l : ℝ) : EReal) else 0)
    (hQ : ∀ l : Fin 64, Q l = if (l : ℕ) < 49 then ((b l : ℝ) : EReal) else 0)
    (p q : Fin 49 → EReal) (hp : ∀ j, p j = ((a j : ℝ) : EReal)) (hq : ∀ j, q j = ((b j : ℝ) : EReal)) :
    klLanes P Q = klBins p q := by
  have hne : (Finset.range 49).Nonempty := ⟨0, by simp⟩
  have hA : 0 < ∑ i ∈ Finset.range 49, a i := Finset.sum_pos (fun i _ => ha i) hne
  have hB : 0 < ∑ i ∈ Finset.range 49, b i := Finset.sum_pos (fun i _ => hb i) hne
  have sP : ∑ l, P l = ((∑ i ∈ Finset.range 49, a i : ℝ) : EReal) := by
    rw [← coe_sum, ← sum_lanes fun i => ((a i : ℝ) : EReal)]
    exact Finset.sum_congr rfl fun l _ => hP l
  have sQ : ∑ l, Q l = ((∑ i ∈ Finset.range 49, b i : ℝ) : EReal) := by
    rw [← coe_sum, ← sum_lanes fun i => ((b i : ℝ) : EReal)]
    exact Finset.sum_congr rfl fun l _ => hQ l
  have sp : ∑ j, p j = ((∑ i ∈ Finset.range 49, a i : ℝ) : EReal) := by
    rw [← coe_sum, Finset.sum_range]
    exact Finset.sum_congr rfl fun l _ => hp l
  have sq : ∑ j, q j = ((∑ i ∈ Finset.range 49, b i : ℝ) : EReal) := by
    rw [← coe_sum, Finset.sum_range]
    exact Finset.sum_congr rfl fun l _ => hq l
  have t : ∑ l : Fin 64, P l * Ideal.log (if (l : ℕ) < 49 then Ideal.div (P l) (Q l) else 1)
      = ((∑ j ∈ Finset.range 49, a j * Real.log (a j / b j) : ℝ) : EReal) := by
    rw [← coe_sum, ← sum_lanes fun j => ((a j * Real.log (a j / b j) : ℝ) : EReal)]
    refine Finset.sum_congr rfl fun l _ => ?_
    by_cases hl : (l : ℕ) < 49
    · rw [if_pos hl, if_pos hl, hP, hQ, if_pos hl, if_pos hl, div_real _ _ (hb l).ne', log_pos _ (div_pos (ha l) (hb l)),
        EReal.coe_mul]
    · rw [if_neg hl, if_neg hl, hP, if_neg hl, zero_mul]
  unfold klLanes klBins
  rw [t, sP, sQ, sp, sq, div_real _ _ hA.ne', div_real _ _ hA.ne', log_pos _ (div_pos hB hA), ← EReal.coe_add,
    ← kl_real a b ha hb _ hne, ← coe_sum, Finset.sum_range]
  refine Finset.sum_congr rfl fun j _ => ?_
  rw [hp, hq, div_real _ _ hA.ne', div_real _ _ hB.ne', div_real _ _ (div_pos (hb j) hB).ne',
    log_pos _ (div_pos (div_pos (ha j) hA) (div_pos (hb j) hB)), ← EReal.coe_mul]

/-- The small number added to every density. -/
def eps : ℝ := 14411519 * 2 ^ (-57 : ℤ)

end Cert.KernelIdeal.Hist

end
-- ==== Proof.Block.lean ====
/- One grid point's block, entry by entry: the least and the greatest value and the width of a row, the
   bins, the edges, and the two histograms, then the divergence. -/
module

public import proofs.«01_k».proof.Proof.Search
public import proofs.«01_k».proof.Proof.Sorted
public import proofs.«01_k».proof.Proof.Divergence

@[expose] public section

noncomputable section

namespace Cert.KernelIdeal.Hist

open Idealize.ShloMosaic Cert.KernelIdeal Cert.KernelIdeal.Gen

theorem ofBits_49 : Ideal.ofBits .f32 0x42440000#32 = ((49 : ℝ) : EReal) := by
  simp [Ideal.ofBits, Ideal.ieee, -EReal.coe_mul]; norm_num

theorem ofBits_8192 : Ideal.ofBits .f32 0x46000000#32 = ((8192 : ℝ) : EReal) := by
  simp [Ideal.ofBits, Ideal.ieee, -EReal.coe_mul]; norm_num

theorem ofBits_one : Ideal.ofBits .f32 0x3F800000#32 = 1 := by
  simp [Ideal.ofBits, Ideal.ieee, -EReal.coe_mul]; norm_num

theorem ofBits_eps : Ideal.ofBits .f32 0x2EDBE6FF#32 = (eps : EReal) := by
  unfold eps
  simp [Ideal.ofBits, Ideal.ieee, -EReal.coe_mul]

theorem ofBits_top : Ideal.ofBits .f32 0x7F800000#32 = ⊤ := by
  simp [Ideal.ofBits, Ideal.ieee]

theorem ofBits_bot : Ideal.ofBits .f32 0xFF800000#32 = ⊥ := by
  simp [Ideal.ofBits, Ideal.ieee]

/-- The least value of a row and the reference returns. -/
def least (x y : Fin 8192 → EReal) : EReal := min (Finset.univ.fold min ⊤ y) (Finset.univ.fold min ⊤ x)

/-- The greatest value of a row and the reference returns. -/
def greatest (x y : Fin 8192 → EReal) : EReal := max (Finset.univ.fold max ⊥ y) (Finset.univ.fold max ⊥ x)

/-- The width of a bin. -/
def width (x y : Fin 8192 → EReal) : EReal := Ideal.div (greatest x y - least x y) ((49 : ℝ) : EReal)

variable (v0 : Vec Ideal S64x8192 .f32) (v1 : Vec Ideal S1x128 .f32) (v3 : Vec Ideal S64x128 .f32)

theorem pay4_apply (r : Fin 64) (u : Fin 1) : k0_pay4 (F := Ideal) v0 v1 (ix2 r u)
    = min (v1 (ix2 0 0)) (Finset.univ.fold min ⊤ fun t : Fin 8192 => v0 (ix2 r t)) := by
  unfold k0_pay4 k0_pay2
  pointwise
  rfl

theorem pay5_apply (r : Fin 64) (u : Fin 1) : k0_pay5 (F := Ideal) v0 v1 v3 (ix2 r u)
    = Ideal.div (max (v3 (ix2 63 127)) (Finset.univ.fold max ⊥ fun t : Fin 8192 => v0 (ix2 r t)) - k0_pay4 (F := Ideal) v0 v1 (ix2 r u))
      ((49 : ℝ) : EReal) := by
  rw [← ofBits_49]
  unfold k0_pay5 k0_pay3
  generalize k0_pay4 (F := Ideal) v0 v1 = z
  pointwise
  rfl

theorem pay6_apply (r : Fin 64) (t : Fin 8192) : k0_pay6 (F := Ideal) v0 v1 v3 (ix2 r t)
    = binWord (k0_pay4 (F := Ideal) v0 v1 (ix2 r 0)) (k0_pay5 (F := Ideal) v0 v1 v3 (ix2 r 0)) (v0 (ix2 r t)) := by
  unfold k0_pay6 binWord
  generalize k0_pay4 (F := Ideal) v0 v1 = z
  generalize k0_pay5 (F := Ideal) v0 v1 v3 = w
  pointwise
  rfl

theorem pay7_apply (r : Fin 64) (t : Fin 8192) : k0_pay7 (F := Ideal) v0 v1 v3 (ix2 r t)
    = IntOp.shli .vector 1#32 (IntOp.shli .vector (IntOp.andi (k0_pay6 (F := Ideal) v0 v1 v3 (ix2 r t)) 3#32) 3#32) := by
  rfl

theorem pay8_apply (r : Fin 64) (t : Fin 8192) : k0_pay8 (F := Ideal) v0 v1 v3 (ix2 r t)
    = IntOp.shrsi .vector (k0_pay6 (F := Ideal) v0 v1 v3 (ix2 r t)) 2#32 := by
  rfl

theorem slt_lane (l : Fin 64) : IntOp.cmpi .slt (BitVec.ofNat 32 (l : ℕ)) 49#32 = BitVec.ofBool (decide ((l : ℕ) < 49)) := by
  fin_cases l <;> rfl

theorem select_lane (l : Fin 64) (a b : EReal) :
    Scalar.select (BitVec.ofBool (decide ((l : ℕ) < 49))) a b = if (l : ℕ) < 49 then a else b := by
  unfold Scalar.select
  by_cases h : (l : ℕ) < 49 <;> simp [h]

/-- The divergence of a row from the lanes of its two histograms. -/
theorem pay1075_apply (q : FVec Ideal S64x64 .f32) (it : IVec S64x64 32) (inv : FVec Ideal S64x1 .f32)
    (pl : FVec Ideal S64x64 .f32) (c : EReal) (r : Fin 64) (u : Fin 1)
    (hit : ∀ l : Fin 64, it (ix2 r l) = BitVec.ofNat 32 l) :
    k0_pay1075 (F := Ideal) q (k0_pay1072 it) inv pl c (ix2 r u)
      = klLanes (fun l => if (l : ℕ) < 49 then pl (ix2 r l) + c else 0)
          (fun l => if (l : ℕ) < 49 then q (ix2 r l) * inv (ix2 r 0) + (eps : EReal) else 0) := by
  have v (l : Fin 64) : k0_pay1072 it (ix2 r l) = BitVec.ofBool (decide ((l : ℕ) < 49)) := by
    show IntOp.cmpi .slt (it (ix2 r l)) 49#32 = _
    rw [hit, slt_lane]
  obtain ⟨K, hK⟩ : ∃ K, K = klLanes (fun l => if (l : ℕ) < 49 then pl (ix2 r l) + c else 0)
      (fun l => if (l : ℕ) < 49 then q (ix2 r l) * inv (ix2 r 0) + (eps : EReal) else 0) := ⟨_, rfl⟩
  rw [← hK]
  unfold k0_pay1075
  generalize k0_pay1072 it = w at v
  pointwise
  simp only [v, select_lane, ofBits_eps]
  rw [hK]
  unfold klLanes
  have t (l : Fin 64) (A B : EReal) : (if (l : ℕ) < 49 then A * B else 0) = (if (l : ℕ) < 49 then A else 0) * B := by
    split
    · rfl
    · rw [zero_mul]
  simp only [t]

end Cert.KernelIdeal.Hist

end
-- ==== Proof.Row.lean ====
/- One row of a grid point's block: the kernel's lanes are the densities of the two histograms, so its
   divergence is the reference's. -/
module

public import proofs.«01_k».proof.Proof.Block

@[expose] public section

noncomputable section

namespace Cert.KernelIdeal.Hist

open Idealize.ShloMosaic Cert.KernelIdeal Cert.KernelIdeal.Gen

/-- The density of bin `j` of the values `z`, with the small number added. -/
def density (lo W : EReal) (z : Fin 8192 → EReal) (j : ℕ) : EReal :=
  Ideal.div ((count (byPlace fun t => binWord lo W (z t)) j : ℝ) : EReal) (((8192 : ℝ) : EReal) * W) + (eps : EReal)

/-- The divergence of a row `x` from the reference returns `y`. -/
def klRow (x y : Fin 8192 → EReal) : EReal :=
  klBins (fun j => density (least x y) (width x y) y j) (fun j => density (least x y) (width x y) x j)

theorem before_apply (R : FVec Ideal S64x64 .f32) (r l : Fin 64) :
    before R (ix2 r l) = if h : (l : ℕ) = 0 then 0 else R (ix2 r ⟨l - 1, by omega⟩) := by
  have z : Ideal.ofBits .f32 0x00000000#32 = 0 := Ideal.ofBits_zero .f32
  unfold before
  pointwise
  by_cases h : (l : ℕ) = 0
  · rw [dif_pos h, dif_pos (by omega)]
  · rw [dif_neg h, dif_neg (by omega)]

/-- A difference of two natural numbers, read among the extended reals. -/
theorem coe_difference {a b d : ℕ} (h : a = d + b) : ((a : ℝ) : EReal) - ((b : ℝ) : EReal) = ((d : ℝ) : EReal) := by
  rw [← EReal.coe_sub, h, Nat.cast_add, add_sub_cancel_right]

theorem eq_48 (l : Fin 64) : IntOp.cmpi .eq (BitVec.ofNat 32 (l : ℕ)) 48#32 = BitVec.ofBool (decide ((l : ℕ) = 48)) := by
  fin_cases l <;> rfl

/-- A lane of the reference's counts, from the counts themselves: differences of the ranks of the upper edges. -/
theorem refLanes_apply (it : IVec S64x64 32) (R : FVec Ideal S64x64 .f32) (r l : Fin 64) (hl : (l : ℕ) < 49)
    (hit : it (ix2 r l) = BitVec.ofNat 32 l) (N c : ℕ → ℕ) (hR : ∀ l : Fin 64, R (ix2 r l) = ((N l : ℝ) : EReal))
    (hN : ∀ j, j ≤ 47 → N j = ∑ i ∈ Finset.range (j + 1), c i) (hall : ∑ i ∈ Finset.range 49, c i = 8192) :
    refLanes it R (ix2 r l) = ((c l : ℝ) : EReal) := by
  show Scalar.select (IntOp.cmpi .eq (it (ix2 r l)) 48#32) (Ideal.ofBits .f32 0x46000000#32 - before R (ix2 r l))
    (R (ix2 r l) - before R (ix2 r l)) = _
  rw [hit, eq_48, before_apply, ofBits_8192]
  unfold Scalar.select
  by_cases h48 : (l : ℕ) = 48
  · have e := hN 47 le_rfl
    rw [Finset.sum_range_succ, ← e] at hall
    rw [if_pos (by simp [h48]), dif_neg (by omega), hR, ← Nat.cast_ofNat (R := ℝ) (n := 8192)]
    refine coe_difference ?_
    dsimp only
    rw [h48, ← hall, add_comm]
  · rw [if_neg (by simp [h48])]
    have e := hN l (by omega)
    rw [hR]
    by_cases h0 : (l : ℕ) = 0
    · rw [dif_pos h0, sub_zero, e, h0, Finset.sum_range_one]
    · rw [dif_neg h0, hR]
      refine coe_difference ?_
      have e' := hN (l - 1) (by omega)
      rw [Nat.sub_add_cancel (by omega)] at e'
      rw [Finset.sum_range_succ] at e
      dsimp only
      rw [e, e', add_comm]

section Pays

variable (X0 : Vec Ideal S64x8192 .f32) (X1 : Vec Ideal S1x128 .f32) (X2 : Vec Ideal S64x128 .f32)
  (X3 X4 : Vec Ideal S1x32 .f32) (X5 : Vec Ideal S32x32 .f32) (X6 : Vec Ideal S1x32 .f32)

theorem zeros2 : (![0, 0] : Fin 2 → Nat) = fun _ => 0 := by
  funext a
  fin_cases a <;> rfl

theorem pay1077_apply (r l : Fin 64) : k0_pay1077 X0 X1 X2 X3 X4 X5 X6 (ix2 r l) = BitVec.ofNat 32 l := by
  unfold k0_pay1077
  pointwise

theorem pay1079_eq : k0_pay1079 X0 X1 X2 X3 X4 X5 X6 = X2 := by
  unfold k0_pay1079 k0_pay3
  rw [View.ld_unit_zero zeros2]
  funext i
  rw [eq_ix2 i]
  pointwise

theorem pay1439_apply (r : Fin 64) (b : Fin 128) : k0_pay1439 X0 X1 X2 X3 X4 X5 X6 (ix2 r b) = X1 (ix2 0 b) := by
  unfold k0_pay1439 k0_pay999 k0_pay1078 k0_pay2
  rw [View.ld_unit_zero zeros2]
  pointwise

theorem pay1080_eq : k0_pay1080 X0 X1 X2 X3 X4 X5 X6 = k0_pay4 X0 X1 := by
  unfold k0_pay1080
  rw [View.ld_unit_zero zeros2, View.ld_unit_zero zeros2]

theorem pay1081_eq : k0_pay1081 X0 X1 X2 X3 X4 X5 X6 = k0_pay5 X0 X1 X2 := by
  unfold k0_pay1081
  rw [View.ld_unit_zero zeros2, View.ld_unit_zero zeros2, View.ld_unit_zero zeros2]

theorem pay1082_eq : k0_pay1082 X0 X1 X2 X3 X4 X5 X6 = k0_pay7 X0 X1 X2 := by
  unfold k0_pay1082
  rw [View.ld_unit_zero zeros2, View.ld_unit_zero zeros2, View.ld_unit_zero zeros2]

theorem pay1083_eq : k0_pay1083 X0 X1 X2 X3 X4 X5 X6 = k0_pay8 X0 X1 X2 := by
  unfold k0_pay1083
  rw [View.ld_unit_zero zeros2, View.ld_unit_zero zeros2, View.ld_unit_zero zeros2]

theorem pay1438_apply (r l : Fin 64) : k0_pay1438 X0 X1 X2 X3 X4 X5 X6 (ix2 r l)
    = k0_pay4 (F := Ideal) X0 X1 (ix2 r 0) + ((((l : ℕ) + 1 : ℕ) : ℝ) : EReal) * k0_pay5 (F := Ideal) X0 X1 X2 (ix2 r 0) := by
  unfold k0_pay1438
  rw [pay1080_eq, pay1081_eq]
  have it := pay1077_apply X0 X1 X2 X3 X4 X5 X6 r l
  generalize k0_pay1077 X0 X1 X2 X3 X4 X5 X6 = w at it
  unfold k0_pay998
  generalize k0_pay4 (F := Ideal) X0 X1 = lo
  generalize k0_pay5 (F := Ideal) X0 X1 X2 = wd
  have s : sitofp (F := Ideal) .f32 (addi w (broadcast S64x64 1#32)) (ix2 r l) = ((((l : ℕ) + 1 : ℕ) : ℝ) : EReal) := by
    show (((IntOp.addi (w (ix2 r l)) 1#32).toInt : ℝ) : EReal) = _
    rw [it]
    have : IntOp.addi (BitVec.ofNat 32 (l : ℕ)) 1#32 = BitVec.ofNat 32 (l + 1) := addi_word _ _
    rw [this, BitVec.toInt_eq_toNat_of_lt, BitVec.toNat_ofNat, Nat.mod_eq_of_lt (by omega)]
    · norm_cast
    · rw [BitVec.toNat_ofNat]
      omega
  rw [← s]
  generalize sitofp (F := Ideal) .f32 (addi w (broadcast S64x64 1#32)) = f
  pointwise

theorem pay1446_apply (r : Fin 64) (u : Fin 1) : k0_pay1446 X0 X1 X2 X3 X4 X5 X6 (ix2 r u)
    = Ideal.div 1 (((8192 : ℝ) : EReal) * k0_pay5 (F := Ideal) X0 X1 X2 (ix2 r u)) := by
  unfold k0_pay1446
  rw [pay1081_eq]
  unfold k0_pay1073
  show Ideal.div (Ideal.ofBits .f32 0x3F800000#32) (Ideal.ofBits .f32 0x46000000#32 * _) = _
  rw [ofBits_one, ofBits_8192]

end Pays

end Cert.KernelIdeal.Hist

end
-- ==== Proof.Lanes.lean ====
/- The first result of a grid point: each row's divergence, from the tables of sorted reference returns. -/
module

public import proofs.«01_k».proof.Proof.Row

@[expose] public section

noncomputable section

namespace Cert.KernelIdeal.Hist

open Idealize.ShloMosaic Cert.KernelIdeal Cert.KernelIdeal.Gen

theorem eps_pos : 0 < eps := by
  unfold eps
  positivity

theorem least_le (x y : Fin 8192 → EReal) (t : Fin 8192) : least x y ≤ y t :=
  (min_le_left _ _).trans ((Finset.fold_min_le _).mpr (Or.inr ⟨t, Finset.mem_univ t, le_rfl⟩))

theorem le_greatest (x y : Fin 8192 → EReal) (t : Fin 8192) : y t ≤ greatest x y :=
  le_trans ((Finset.le_fold_max _).mpr (Or.inr ⟨t, Finset.mem_univ t, le_rfl⟩)) (le_max_left _ _)

/-- The condition on one row: no reference return on an inner edge of its bins, which are not empty. -/
def Good (x y : Fin 8192 → EReal) : Prop :=
  width x y ≠ 0 ∧ ∀ t, Misses (Ideal.div (y t - least x y) (width x y))

/-- The upper edge of bin `l`. -/
def edge (x y : Fin 8192 → EReal) (l : ℕ) : EReal := least x y + (((l + 1 : ℕ) : ℝ) : EReal) * width x y

/-- The words of the bins of some values, by place. -/
def bins (x y z : Fin 8192 → EReal) : ℕ → BitVec 32 := byPlace fun t => binWord (least x y) (width x y) (z t)

theorem bins_le (x y z : Fin 8192 → EReal) (t : ℕ) : (bins x y z t).toNat ≤ 48 := binWord_le _ _ _

/-- In bins of a real width the returns up to an upper edge are those of the bins up to it. -/
theorem below_edge (x y : Fin 8192 → EReal) (g : Good x y) (l w : ℝ) (hl : least x y = l)
    (hh : greatest x y = ((l + 49 * w : ℝ) : EReal)) (hW : width x y = w) (hw : 0 ≤ w) (j : ℕ) (hj : j ≤ 47) :
    below (byPlace y) (edge x y j) = ∑ i ∈ Finset.range (j + 1), count (bins x y y) i := by
  have pos : 0 < w := lt_of_le_of_ne hw fun e => g.1 (by rw [hW, ← e, EReal.coe_zero])
  apply below_eq_sum
  intro t
  have h0 := least_le x y (Fin.ofNat 8192 t)
  have h1 := le_greatest x y (Fin.ofNat 8192 t)
  have miss := g.2 (Fin.ofNat 8192 t)
  unfold edge bins
  show y (Fin.ofNat 8192 t) ≤ _ ↔ (binWord (least x y) (width x y) (y (Fin.ofNat 8192 t))).toNat ≤ j
  generalize y (Fin.ofNat 8192 t) = z at *
  rw [hl] at h0 miss
  rw [hh] at h1
  rw [hW] at miss
  rw [hl, hW]
  induction z with
  | bot => exact absurd h0 (by simp)
  | top => exact absurd h1 (not_le.mpr (EReal.coe_lt_top _))
  | coe z =>
    rw [EReal.coe_le_coe_iff] at h0 h1
    rw [← EReal.coe_sub, div_real _ _ pos.ne'] at miss
    exact le_edge_iff l w z pos h0 h1 j hj (miss.ne j hj)

theorem width_scale (x y : Fin 8192 → EReal) (g : Good x y) :
    ∃ v : ℝ, 0 ≤ v ∧ (∀ c, Ideal.div c (((8192 : ℝ) : EReal) * width x y) = c * (v : EReal))
      ∧ (v = 0 ∨ ∀ j ≤ 47, below (byPlace y) (edge x y j) = ∑ i ∈ Finset.range (j + 1), count (bins x y y) i) := by
  have le : least x y ≤ greatest x y := (least_le x y 0).trans (le_greatest x y 0)
  rcases width_cases _ _ le with ⟨l, w, hl, hh, hW, hw⟩ | h
  · obtain ⟨v, hv, hc, -⟩ := scale_exists (width x y) g.1 (Or.inl ⟨w, hW, hw⟩)
    exact ⟨v, hv, hc, Or.inr fun j hj => below_edge x y g l w hl hh hW hw j hj⟩
  · obtain ⟨v, hv, hc, h0⟩ := scale_exists (width x y) g.1 (Or.inr h)
    exact ⟨v, hv, hc, Or.inl (h0 h)⟩

section Block

variable (X0 : Vec Ideal S64x8192 .f32) (X1 : Vec Ideal S1x128 .f32) (X2 : Vec Ideal S64x128 .f32)
  (X3 X4 : Vec Ideal S1x32 .f32) (X5 : Vec Ideal S32x32 .f32) (X6 : Vec Ideal S1x32 .f32)
  (yv : FVec Ideal S8192 .f32)

/-- The first table holds every 64th of the sorted reference returns. -/
def Table1 : Prop := ∀ b (hb : b < 128), X1 (ix2 0 ⟨b, hb⟩) = sorted yv (ix1 ⟨64 * b, by omega⟩)

/-- The second table holds all of them, by column. -/
def Table2 : Prop := ∀ s (hs : s < 64) b (hb : b < 128),
  X2 (ix2 ⟨s, hs⟩ ⟨b, hb⟩) = sorted yv (ix1 ⟨64 * b + s, by omega⟩)

/-- Row `r` of the block. -/
def rowOf (r : Fin 64) : Fin 8192 → EReal := fun t => X0 (ix2 r t)

/-- The reference returns. -/
def returns : Fin 8192 → EReal := fun t => yv (ix1 t)

variable (h1 : Table1 X1 yv) (h2 : Table2 X2 yv)

include h1 in
theorem pay4_row (r : Fin 64) (u : Fin 1) :
    k0_pay4 (F := Ideal) X0 X1 (ix2 r u) = least (rowOf X0 r) (returns yv) := by
  rw [pay4_apply]
  have e := h1 0 (by norm_num)
  have e' := sorted_first yv
  exact congrArg (fun z => min z _) (e.trans e')

include h1 h2 in
theorem pay5_row (r : Fin 64) (u : Fin 1) :
    k0_pay5 (F := Ideal) X0 X1 X2 (ix2 r u) = width (rowOf X0 r) (returns yv) := by
  rw [pay5_apply, pay4_row X0 X1 yv h1]
  have e := h2 63 (by norm_num) 127 (by norm_num)
  rw [show (⟨64 * 127 + 63, by norm_num⟩ : Fin 8192) = ⟨8191, by norm_num⟩ from Fin.ext (by norm_num), sorted_last yv] at e
  have i : (ix2 (63 : Fin 64) (127 : Fin 128)) = ix2 (⟨63, by norm_num⟩ : Fin 64) (⟨127, by norm_num⟩ : Fin 128) := rfl
  rw [i, e]
  rfl

include h1 h2 in
theorem row_lanes (r l : Fin 64) : k0_pay1437 X0 X1 X2 X3 X4 X5 X6 (ix2 r l)
    = if (l : ℕ) ≤ 48 then ((count (bins (rowOf X0 r) (returns yv) (rowOf X0 r)) l : ℝ) : EReal) else 0 := by
  rw [lanes_eq, pay1082_eq, pay1083_eq]
  have w (t : ℕ) (ht : t < 8192) : k0_pay6 (F := Ideal) X0 X1 X2 (ix2 r ⟨t, ht⟩)
      = bins (rowOf X0 r) (returns yv) (rowOf X0 r) t := by
    rw [pay6_apply, pay4_row X0 X1 yv h1, pay5_row X0 X1 X2 yv h1 h2, bins, byPlace_lt _ t ht]
    rfl
  refine histogram_apply ?_ ?_ _ l (pay1077_apply X0 X1 X2 X3 X4 X5 X6 r l)
  · intro t ht
    rw [pay7_apply, w]
  · intro t ht
    rw [pay8_apply, w]

include h1 h2 in
theorem row_rank (r l : Fin 64) :
    rank (k0_pay1079 X0 X1 X2 X3 X4 X5 X6) (k0_pay1438 X0 X1 X2 X3 X4 X5 X6) (k0_pay1444 X0 X1 X2 X3 X4 X5 X6) (ix2 r l)
      = ((below (byPlace (returns yv)) (edge (rowOf X0 r) (returns yv) l) : ℝ) : EReal) := by
  rw [block_eq, pay1079_eq]
  have e : k0_pay1438 X0 X1 X2 X3 X4 X5 X6 (ix2 r l) = edge (rowOf X0 r) (returns yv) l := by
    rw [pay1438_apply, pay4_row X0 X1 yv h1, pay5_row X0 X1 X2 yv h1 h2]
    rfl
  refine rank_apply _ _ _ r l _ (below_le _ _) ?_ ?_
  · intro b hb
    rw [e, pay1439_apply, h1 b hb]
    exact sorted_le_iff yv _ _
  · intro s hs b hb
    rw [e, h2 s hs b hb]
    exact sorted_le_iff yv _ _

include h1 h2 in
theorem row_refLanes (r l : Fin 64) (hl : (l : ℕ) < 49) (v : ℝ)
    (hv : ∀ c, Ideal.div c (((8192 : ℝ) : EReal) * width (rowOf X0 r) (returns yv)) = c * (v : EReal))
    (h : v = 0 ∨ ∀ j ≤ 47, below (byPlace (returns yv)) (edge (rowOf X0 r) (returns yv) j)
      = ∑ i ∈ Finset.range (j + 1), count (bins (rowOf X0 r) (returns yv) (returns yv)) i) :
    k0_pay1447 X0 X1 X2 X3 X4 X5 X6 (ix2 r l)
      = ((count (bins (rowOf X0 r) (returns yv) (returns yv)) l : ℝ) : EReal) * (v : EReal) := by
  have inv : broadcastTo S64x64 (k0_pay1446 X0 X1 X2 X3 X4 X5 X6) broadcasts_S64x1_S64x64 (ix2 r l) = (v : EReal) := by
    have i : k0_pay1446 X0 X1 X2 X3 X4 X5 X6 (ix2 r 0) = (v : EReal) := by
      rw [pay1446_apply, pay5_row X0 X1 X2 yv h1 h2, hv, one_mul]
    generalize k0_pay1446 X0 X1 X2 X3 X4 X5 X6 = f at *
    rw [← i]
    pointwise
  rw [refLanes_eq]
  show refLanes _ _ (ix2 r l) * broadcastTo S64x64 _ _ (ix2 r l) = _
  rw [inv]
  rcases h with h | h
  · rw [h, EReal.coe_zero, mul_zero, mul_zero]
  · rw [refLanes_apply _ _ r l hl (pay1077_apply X0 X1 X2 X3 X4 X5 X6 r l)
      (fun l => below (byPlace (returns yv)) (edge (rowOf X0 r) (returns yv) l))
      (count (bins (rowOf X0 r) (returns yv) (returns yv)))
      (fun l => row_rank X0 X1 X2 X3 X4 X5 X6 yv h1 h2 r l) h (sum_count_all _ (bins_le _ _ _))]

include h1 h2 in
/-- The divergence of row `r`. -/
theorem row_kl (r : Fin 64) (u : Fin 1) (g : Good (rowOf X0 r) (returns yv)) :
    k0_pay1075 (F := Ideal) (k0_pay1437 X0 X1 X2 X3 X4 X5 X6) (k0_pay1445 X0 X1 X2 X3 X4 X5 X6)
      (k0_pay1446 X0 X1 X2 X3 X4 X5 X6) (k0_pay1447 X0 X1 X2 X3 X4 X5 X6) (Scalar.ofBits .f32 0x2EDBE6FF#32) (ix2 r u)
      = klRow (rowOf X0 r) (returns yv) := by
  obtain ⟨v, v0, hv, h⟩ := width_scale _ _ g
  have pos (n : ℕ) : 0 < (n : ℝ) * v + eps := add_pos_of_nonneg_of_pos (mul_nonneg n.cast_nonneg v0) eps_pos
  have dens (z : Fin 8192 → EReal) (j : ℕ) : density (least (rowOf X0 r) (returns yv)) (width (rowOf X0 r) (returns yv)) z j
      = (((count (bins (rowOf X0 r) (returns yv) z) j : ℝ) * v + eps : ℝ) : EReal) := by
    unfold density
    rw [hv, EReal.coe_add, EReal.coe_mul]
    rfl
  have e : k0_pay1445 X0 X1 X2 X3 X4 X5 X6 = k0_pay1072 (k0_pay1077 X0 X1 X2 X3 X4 X5 X6) := rfl
  rw [e, pay1075_apply _ _ _ _ _ r u (pay1077_apply X0 X1 X2 X3 X4 X5 X6 r)]
  unfold klRow
  refine klLanes_eq (fun j => (count (bins (rowOf X0 r) (returns yv) (returns yv)) j : ℝ) * v + eps)
    (fun j => (count (bins (rowOf X0 r) (returns yv) (rowOf X0 r)) j : ℝ) * v + eps) (fun j => pos _) (fun j => pos _)
    _ _ ?_ ?_ _ _ (fun j => dens _ _) (fun j => dens _ _)
  · intro l
    by_cases hl : (l : ℕ) < 49
    · rw [if_pos hl, if_pos hl, row_refLanes X0 X1 X2 X3 X4 X5 X6 yv h1 h2 r l hl v hv h, EReal.coe_add, EReal.coe_mul,
        ← ofBits_eps]
      rfl
    · rw [if_neg hl, if_neg hl]
  · intro l
    by_cases hl : (l : ℕ) < 49
    · rw [if_pos hl, if_pos hl, row_lanes X0 X1 X2 X3 X4 X5 X6 yv h1 h2 r l, if_pos (by omega), pay1446_apply,
        pay5_row X0 X1 X2 yv h1 h2, hv, one_mul, EReal.coe_add, EReal.coe_mul]
    · rw [if_neg hl, if_neg hl]

include h1 h2 in
theorem out0_7_apply (r : Fin 64) (u : Fin 1) (g : Good (rowOf X0 r) (returns yv)) :
    out0_7 X0 X1 X2 X3 X4 X5 X6 (ix2 r u) = klRow (rowOf X0 r) (returns yv) := by
  unfold out0_7
  rw [View.canon_unit_zero zeros2, row_kl X0 X1 X2 X3 X4 X5 X6 yv h1 h2 r u g]

/-- The second layer of a row, from its divergence. -/
def encode (kl : EReal) (w1 b1 b2 : Fin 32 → EReal) (w2 : Fin 32 → Fin 32 → EReal) (h : Fin 32) : EReal :=
  (∑ k : Fin 32, max (kl * w1 k + b1 k) 0 * w2 k h) + b2 h

include h1 h2 in
theorem out0_8_apply (r : Fin 64) (h : Fin 32) (g : Good (rowOf X0 r) (returns yv)) :
    out0_8 X0 X1 X2 X3 X4 X5 X6 (ix2 r h)
      = encode (klRow (rowOf X0 r) (returns yv)) (fun k => X3 (ix2 0 k)) (fun k => X4 (ix2 0 k)) (fun k => X6 (ix2 0 k))
          (fun k h => X5 (ix2 h k)) h := by
  unfold out0_8
  rw [View.canon_unit_zero zeros2, View.ld_unit_zero zeros2, View.ld_unit_zero zeros2, View.ld_unit_zero zeros2,
    View.ld_unit_zero zeros2]
  have e := row_kl X0 X1 X2 X3 X4 X5 X6 yv h1 h2 r 0 g
  unfold k0_pay1 k0_pay1076
  generalize k0_pay1075 (F := Ideal) (k0_pay1437 X0 X1 X2 X3 X4 X5 X6) (k0_pay1445 X0 X1 X2 X3 X4 X5 X6)
      (k0_pay1446 X0 X1 X2 X3 X4 X5 X6) (k0_pay1447 X0 X1 X2 X3 X4 X5 X6) (Scalar.ofBits .f32 0x2EDBE6FF#32) = f at e ⊢
  unfold encode
  rw [← e]
  obtain ⟨K, hK⟩ : ∃ K, K = (∑ k : Fin 32, max (f (ix2 r 0) * X3 (ix2 0 k) + X4 (ix2 0 k)) 0 * X5 (ix2 h k)) := ⟨_, rfl⟩
  rw [← hK]
  pointwise
  rw [hK]

end Block

end Cert.KernelIdeal.Hist

end
-- ==== Proof.Refer.lean ====
/- The reference read at an index: a row's divergence is the one of the densities of its two histograms. -/
module

public import proofs.«01_k».proof.Proof.Lanes
public import proofs.«01_k».proof.Proof.Gen.ReferenceIdeal.Read

@[expose] public section

noncomputable section

namespace Cert.ReferenceIdeal.Hist

open Idealize.ShloMosaic Cert.ReferenceIdeal Cert.ReferenceIdeal.Gen Cert.ReferenceIdeal.Read
open Cert.KernelIdeal.Hist (least greatest width density klRow klBins binWord count hit byPlace byPlace_lt eps encode Misses
  ofBits_49 ofBits_8192 ofBits_eps ofBits_top ofBits_bot)

variable (x0 : (⟨S4096x8192, .f32⟩ : BufTy).Contents (Elt Ideal)) (x1 : (⟨S8192, .f32⟩ : BufTy).Contents (Elt Ideal))

/-- Row `r` of the new returns. -/
def row (r : Fin 4096) : Fin 8192 → EReal := fun t => x0 (ix2 r t)

/-- The reference returns. -/
def base : Fin 8192 → EReal := fun t => x1 (ix1 t)

theorem lo_apply (r : Fin 4096) (u : Fin 1) : val_main_v4 (F := Ideal) x0 x1 (ix2 r u) = least (row x0 r) (base x1) := by
  unfold val_main_v4 val_main_v3 val_main_v2 val_main_v1 val_main_v0 val_main_cst val_main_cst_0 least row base
  rw [← ofBits_top]
  pointwise

theorem hi_apply (r : Fin 4096) (u : Fin 1) : val_main_v9 (F := Ideal) x0 x1 (ix2 r u) = greatest (row x0 r) (base x1) := by
  unfold val_main_v9 val_main_v8 val_main_v7 val_main_v6 val_main_v5 val_main_cst_1 val_main_cst_2 greatest row base
  rw [← ofBits_bot]
  pointwise

theorem width_apply (r : Fin 4096) (u : Fin 1) : val_main_v12 (F := Ideal) x0 x1 (ix2 r u) = width (row x0 r) (base x1) := by
  unfold width
  rw [← lo_apply x0 x1 r u, ← hi_apply x0 x1 r u, ← ofBits_49, val_main_v12_apply, val_main_v10_apply, val_main_v11_apply,
    val_main_cst_3_apply]
  rfl

/-- Where a reference return lies among the bins. -/
theorem place_apply (r : Fin 4096) (t : Fin 8192) : val_main_v18 (F := Ideal) x0 x1 (ix2 r t)
    = Ideal.div (base x1 t - least (row x0 r) (base x1)) (width (row x0 r) (base x1)) := by
  rw [← width_apply x0 x1 r 0, ← lo_apply x0 x1 r 0]
  unfold val_main_v18 val_main_v17 val_main_v16 val_main_v15 val_main_v14 val_main_v13 base
  generalize val_main_v12 (F := Ideal) x0 x1 = w
  generalize val_main_v4 (F := Ideal) x0 x1 = l
  pointwise

/-- Where a new return lies. -/
theorem place'_apply (r : Fin 4096) (t : Fin 8192) : val_main_v39 (F := Ideal) x0 x1 (ix2 r t)
    = Ideal.div (row x0 r t - least (row x0 r) (base x1)) (width (row x0 r) (base x1)) := by
  rw [← width_apply x0 x1 r 0, ← lo_apply x0 x1 r 0]
  unfold val_main_v39 val_main_v38 val_main_v37 val_main_v36 row
  generalize val_main_v12 (F := Ideal) x0 x1 = w
  generalize val_main_v4 (F := Ideal) x0 x1 = l
  pointwise

theorem word_apply (r : Fin 4096) (t : Fin 8192) : val_main_v21 (F := Ideal) x0 x1 (ix2 r t)
    = binWord (least (row x0 r) (base x1)) (width (row x0 r) (base x1)) (base x1 t) := by
  unfold binWord
  rw [← place_apply, val_main_v21_apply, val_main_call0_v4_apply, val_main_call0_v2_apply, val_main_call0_v1_apply,
    val_main_v20_apply, val_main_v19_apply]
  rfl

theorem word'_apply (r : Fin 4096) (t : Fin 8192) : val_main_v42 (F := Ideal) x0 x1 (ix2 r t)
    = binWord (least (row x0 r) (base x1)) (width (row x0 r) (base x1)) (row x0 r t) := by
  unfold binWord
  rw [← place'_apply, val_main_v42_apply, val_main_call1_v4_apply, val_main_call1_v2_apply, val_main_call1_v1_apply,
    val_main_v41_apply, val_main_v40_apply]
  rfl

/-- A comparison of a word with a bin, as a number. -/
theorem hit_apply (w : BitVec 32) (j : ℕ) (hj : j < 49) :
    FloatOps.uitofp (F := Ideal) .f32 (IntOp.cmpi .eq w (BitVec.ofNat 32 j)) = (((if w.toNat = j then 1 else 0 : ℕ) : ℝ) : EReal) := by
  show (((IntOp.cmpi .eq w (BitVec.ofNat 32 j)).toNat : ℝ) : EReal) = _
  have e : (w = BitVec.ofNat 32 j) ↔ w.toNat = j := by
    rw [← BitVec.toNat_inj, BitVec.toNat_ofNat, Nat.mod_eq_of_lt (by omega)]
  show (((BitVec.ofBool (w == BitVec.ofNat 32 j)).toNat : ℝ) : EReal) = _
  by_cases h : w.toNat = j
  · rw [if_pos h, beq_iff_eq.mpr (e.mpr h)]
    rfl
  · rw [if_neg h, beq_eq_false_iff_ne.mpr fun h' => h (e.mp h')]
    rfl

/-- A sum of such comparisons over a row is the count. -/
theorem sum_hits (w : Fin 8192 → BitVec 32) (j : ℕ) :
    ∑ t : Fin 8192, (((if (w t).toNat = j then 1 else 0 : ℕ) : ℝ) : EReal) = ((count (byPlace w) j : ℝ) : EReal) := by
  unfold Cert.KernelIdeal.Hist.count
  rw [Finset.sum_range, Nat.cast_sum, ← Cert.KernelIdeal.Hist.coe_sum]
  refine Finset.sum_congr rfl fun t _ => ?_
  unfold hit
  rw [byPlace_lt w t t.isLt]

theorem count_apply (r : Fin 4096) (j : Fin 49) : val_main_v29 (F := Ideal) x0 x1 (ix2 r j)
    = ((count (byPlace fun t => binWord (least (row x0 r) (base x1)) (width (row x0 r) (base x1)) (base x1 t)) j : ℝ) : EReal) := by
  rw [← sum_hits, val_main_v29_apply, val_main_cst_5_apply]
  refine (congrArg (· + _) (Ideal.ofBits_zero .f32)).trans ((zero_add _).trans (Finset.sum_congr rfl fun t _ => ?_))
  rw [← word_apply, ← hit_apply _ _ j.isLt, val_main_v28_apply, val_main_v27_apply, val_main_v26_apply, val_main_v25_apply,
    val_main_v24_apply, val_main_v23_apply, val_main_v22_apply]
  exact congrArg (fun i => FloatOps.uitofp (F := Ideal) .f32 (IntOp.cmpi .eq (val_main_v21 (F := Ideal) x0 x1 i) _)) (eq_ix2 _)

theorem count'_apply (r : Fin 4096) (j : Fin 49) : val_main_v50 (F := Ideal) x0 x1 (ix2 r j)
    = ((count (byPlace fun t => binWord (least (row x0 r) (base x1)) (width (row x0 r) (base x1)) (row x0 r t)) j : ℝ) : EReal) := by
  rw [← sum_hits, val_main_v50_apply, val_main_cst_10_apply]
  refine (congrArg (· + _) (Ideal.ofBits_zero .f32)).trans ((zero_add _).trans (Finset.sum_congr rfl fun t _ => ?_))
  rw [← word'_apply, ← hit_apply _ _ j.isLt, val_main_v49_apply, val_main_v48_apply, val_main_v47_apply, val_main_v46_apply,
    val_main_v45_apply, val_main_v44_apply, val_main_v43_apply]
  exact congrArg (fun i => FloatOps.uitofp (F := Ideal) .f32 (IntOp.cmpi .eq (val_main_v42 (F := Ideal) x0 x1 i) _)) (eq_ix2 _)

theorem density_apply (r : Fin 4096) (j : Fin 49) : val_main_v35 (F := Ideal) x0 x1 (ix2 r j)
    = density (least (row x0 r) (base x1)) (width (row x0 r) (base x1)) (base x1) j := by
  unfold density
  rw [← count_apply, ← ofBits_8192, ← ofBits_eps, ← width_apply x0 x1 r 0]
  unfold val_main_v35 val_main_v34 val_main_v33 val_main_v32 val_main_v31 val_main_v30 val_main_cst_7 val_main_cst_6
  generalize val_main_v12 (F := Ideal) x0 x1 = w
  generalize val_main_v29 (F := Ideal) x0 x1 = l
  pointwise

theorem density'_apply (r : Fin 4096) (j : Fin 49) : val_main_v56 (F := Ideal) x0 x1 (ix2 r j)
    = density (least (row x0 r) (base x1)) (width (row x0 r) (base x1)) (row x0 r) j := by
  unfold density
  rw [← count'_apply, ← ofBits_8192, ← ofBits_eps, ← width_apply x0 x1 r 0]
  unfold val_main_v56 val_main_v55 val_main_v54 val_main_v53 val_main_v52 val_main_v51 val_main_cst_12 val_main_cst_11
  generalize val_main_v12 (F := Ideal) x0 x1 = w
  generalize val_main_v50 (F := Ideal) x0 x1 = l
  pointwise

theorem norm_apply (r : Fin 4096) (j : Fin 49) : val_main_v60 (F := Ideal) x0 x1 (ix2 r j)
    = Ideal.div (val_main_v35 (F := Ideal) x0 x1 (ix2 r j)) (∑ i : Fin 49, val_main_v35 (F := Ideal) x0 x1 (ix2 r i)) := by
  unfold val_main_v60 val_main_v59 val_main_v58 val_main_v57 val_main_cst_13
  generalize val_main_v35 (F := Ideal) x0 x1 = p
  obtain ⟨K, hK⟩ : ∃ K, K = ∑ i : Fin 49, p (ix2 r i) := ⟨_, rfl⟩
  rw [← hK]
  pointwise
  rw [hK]

theorem norm'_apply (r : Fin 4096) (j : Fin 49) : val_main_v64 (F := Ideal) x0 x1 (ix2 r j)
    = Ideal.div (val_main_v56 (F := Ideal) x0 x1 (ix2 r j)) (∑ i : Fin 49, val_main_v56 (F := Ideal) x0 x1 (ix2 r i)) := by
  unfold val_main_v64 val_main_v63 val_main_v62 val_main_v61 val_main_cst_14
  generalize val_main_v56 (F := Ideal) x0 x1 = p
  obtain ⟨K, hK⟩ : ∃ K, K = ∑ i : Fin 49, p (ix2 r i) := ⟨_, rfl⟩
  rw [← hK]
  pointwise
  rw [hK]

/-- The reference's first result. -/
theorem kl_apply (r : Fin 4096) (u : Fin 1) : val_main_v69 (F := Ideal) x0 x1 (ix2 r u) = klRow (row x0 r) (base x1) := by
  have e : val_main_v69 (F := Ideal) x0 x1 (ix2 r u) = ∑ j : Fin 49, val_main_v67 (F := Ideal) x0 x1 (ix2 r j) := by
    unfold val_main_v69 val_main_v68 val_main_cst_15
    generalize val_main_v67 (F := Ideal) x0 x1 = p
    pointwise
  rw [e]
  unfold klRow klBins
  refine Finset.sum_congr rfl fun j _ => ?_
  rw [val_main_v67_apply, val_main_v66_apply, val_main_v65_apply, norm_apply, norm'_apply]
  simp only [density_apply, density'_apply]
  rfl

/-- The reference's second result. -/
theorem enc_apply (x2 : (⟨S32x1, .f32⟩ : BufTy).Contents (Elt Ideal)) (x3 : (⟨S32, .f32⟩ : BufTy).Contents (Elt Ideal))
    (x4 : (⟨S32x32, .f32⟩ : BufTy).Contents (Elt Ideal)) (x5 : (⟨S32, .f32⟩ : BufTy).Contents (Elt Ideal))
    (r : Fin 4096) (h : Fin 32) : val_main_v81 (F := Ideal) x0 x1 x2 x3 x4 x5 (ix2 r h)
      = encode (klRow (row x0 r) (base x1)) (fun k => x2 (ix2 k 0)) (fun k => x3 (ix1 k)) (fun k => x5 (ix1 k))
          (fun k h => x4 (ix2 h k)) h := by
  have first (k : Fin 32) : val_main_v71 (F := Ideal) x0 x1 x2 (ix2 r k) = klRow (row x0 r) (base x1) * x2 (ix2 k 0) := by
    rw [val_main_v71_apply, Fin.sum_univ_one, val_main_v70_apply, ← kl_apply x0 x1 r 0]
    exact congrArg₂ (fun i j => val_main_v69 (F := Ideal) x0 x1 i * x2 j) (eq_ix2 _) (eq_ix2 _)
  have second (k : Fin 32) : val_main_v76 (F := Ideal) x0 x1 x2 x3 (ix2 r k)
      = max (klRow (row x0 r) (base x1) * x2 (ix2 k 0) + x3 (ix1 k)) 0 := by
    rw [← first]
    unfold val_main_v76 val_main_v75 val_main_v74 val_main_v73 val_main_v72 val_main_cst_16
    generalize val_main_v71 (F := Ideal) x0 x1 x2 = p
    pointwise
  have third : val_main_v78 (F := Ideal) x0 x1 x2 x3 x4 (ix2 r h)
      = ∑ k : Fin 32, max (klRow (row x0 r) (base x1) * x2 (ix2 k 0) + x3 (ix1 k)) 0 * x4 (ix2 h k) := by
    rw [val_main_v78_apply]
    refine Finset.sum_congr rfl fun k _ => ?_
    rw [← second, val_main_v77_apply]
    exact congrArg₂ (fun i j => val_main_v76 (F := Ideal) x0 x1 x2 x3 i * x4 j) (eq_ix2 _) (eq_ix2 _)
  unfold encode
  rw [← third]
  unfold val_main_v81 val_main_v80 val_main_v79
  generalize val_main_v78 (F := Ideal) x0 x1 x2 x3 x4 = p
  pointwise

end Cert.ReferenceIdeal.Hist

end
-- ==== Proof.Condition.lean ====
/- The printed precondition, read at an index: every row is one the proof covers. -/
module

public import proofs.«01_k».proof.Proof.Refer
public import proofs.«01_k».proof.Proof.Gen.Pre_returns_miss_the_inner_edges

@[expose] public section

noncomputable section

namespace Cert.ReferenceIdeal.Hist

open Idealize.ShloMosaic Cert.ReferenceIdeal Cert.ReferenceIdeal.Gen Cert.ReferenceIdeal.Read
open Cert.KernelIdeal.Hist (Good Misses)

theorem ofBool_one {b : Bool} : BitVec.ofBool b = 1#1 ↔ b = true := by cases b <;> decide

theorem and_one {a b : BitVec 1} (h : IntOp.andi a b = 1#1) : a = 1#1 ∧ b = 1#1 := by
  revert a b
  decide

theorem or_one {a b : BitVec 1} (h : IntOp.ori a b = 1#1) : a = 1#1 ∨ b = 1#1 := by
  revert a b
  decide

/-- The condition at one return of one row, from its width and where the return lies. -/
theorem part_apply (w : FVec Ideal S4096x1 .f32) (u : FVec Ideal S4096x8192 .f32) (r : Fin 4096) (t : Fin 8192)
    (h : Cert.Pre_returns_miss_the_inner_edges.fn_part1 (F := Ideal) w u (ix2 r t) = 1#1) :
    w (ix2 r 0) ≠ 0 ∧ Misses (u (ix2 r t)) := by
  unfold Cert.Pre_returns_miss_the_inner_edges.fn_part1 at h
  obtain ⟨h1, h2⟩ := and_one h
  have z : Ideal.ofBits .f32 0x00000000#32 = 0 := Ideal.ofBits_zero .f32
  constructor
  · have e : BitVec.ofBool (decide (w (ix2 r 0) ≠ Ideal.ofBits .f32 0x00000000#32)) = 1#1 := by
      rw [← h1]
      pointwise
    rw [ofBool_one, decide_eq_true_eq, z] at e
    exact e
  · unfold Misses
    rcases or_one h2 with h2 | h2
    · rcases or_one h2 with h2 | h2
      · left
        exact of_decide_eq_true (ofBool_one.mp h2)
      · right
        left
        have := of_decide_eq_true (ofBool_one.mp h2)
        rw [← z]
        exact this
    · right
      right
      have := of_decide_eq_true (ofBool_one.mp h2)
      rw [← Cert.KernelIdeal.Hist.ofBits_49]
      exact this

theorem good_of_fn (x0 : (⟨S4096x8192, .f32⟩ : BufTy).Contents (Elt Ideal)) (x1 : (⟨S8192, .f32⟩ : BufTy).Contents (Elt Ideal))
    (x2 : (⟨S32x1, .f32⟩ : BufTy).Contents (Elt Ideal)) (x3 : (⟨S32, .f32⟩ : BufTy).Contents (Elt Ideal))
    (x4 : (⟨S32x32, .f32⟩ : BufTy).Contents (Elt Ideal)) (x5 : (⟨S32, .f32⟩ : BufTy).Contents (Elt Ideal))
    (h : Cert.Pre_returns_miss_the_inner_edges.fn (F := Ideal) x0 x1 x2 x3 x4 x5 = fun _ => 1#1) (r : Fin 4096) :
    Good (row x0 r) (base x1) := by
  have e (t : Fin 8192) := part_apply (val_main_v12 (F := Ideal) x0 x1) (val_main_v18 (F := Ideal) x0 x1) r t (congrFun h (ix2 r t))
  constructor
  · rw [← width_apply x0 x1 r 0]
    exact (e 0).1
  · intro t
    rw [← place_apply]
    exact (e t).2

end Cert.ReferenceIdeal.Hist

end
-- ==== Proof.Final.lean ====
/- The two result arrays after the run, index by index. -/
module

public import proofs.«01_k».proof.Proof.Refer
public import proofs.«01_k».proof.Proof.Gen.KernelIdeal.Value
public import Idealize.ShloMosaic.Lib.Pipeline.ValueKit
public import Idealize.ShloMosaic.Lib.Claim

@[expose] public section

set_option maxRecDepth 16384

noncomputable section

namespace Cert.KernelIdeal.Hist

open Idealize.ShloMosaic Idealize.ShloMosaic.TcCoe Idealize.SL.Sem Cert.KernelIdeal Cert.KernelIdeal.Gen
open Idealize.ShloMosaic.Pipeline (Dat)

variable (m : (ℓ : Loc nD τ sig) → Buf (Elt Ideal) ℓ)

/-- The blocks' positions: the rows and the results move with the grid point, the tables stay. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![t.val, 0] ∧ win0_8.index t = ![t.val, 0] ∧ t.val < 64 :=
  (by decide +kernel : ∀ t : Fin grid0.N, _)

theorem blk0 (c : Dev nD) (t : Fin cfg0.N) (r : Fin 64) (k : Fin 8192) (h : t.val * 64 + r < 4096) :
    iblk m c 0 t (ix2 r k) = m ((c : Thread nD τ).loc main_arg0) (ix2 ⟨t.val * 64 + r, h⟩ k) := by
  blk_ext! [iblk, V, idx t]

/-! What the region finds in the operands the host lays out -/

theorem V_main_v2 (c : Dev nD) : V m c main_v2 = shapeCast S1x128 (Host.slice S128 ![0] ![64] (sorted (m ((c : Thread nD τ).loc main_arg1)))
    slicesBy_S8192_S128_0s64) shapeCasts_S128_S1x128 := by
  simp only [V, hostOps0, hostOps0_1, List.flatten_cons, List.flatten_nil, List.append_nil, List.cons_append, List.nil_append]
  after_results
  rfl

theorem V_main_v4 (c : Dev nD) : V m c main_v4 = transpose S64x128 [1, 0] (shapeCast S128x64 (sorted (m ((c : Thread nD τ).loc main_arg1)))
    shapeCasts_S8192_S128x64) transposes_S128x64_S64x128_1_0 := by
  simp only [V, hostOps0, hostOps0_1, List.flatten_cons, List.flatten_nil, List.append_nil, List.cons_append, List.nil_append]
  after_results
  rfl

theorem V_main_v5 (c : Dev nD) : V m c main_v5 = shapeCast S1x32 (m ((c : Thread nD τ).loc main_arg2)) shapeCasts_S32x1_S1x32 := by
  simp only [V, hostOps0, hostOps0_1, List.flatten_cons, List.flatten_nil, List.append_nil, List.cons_append, List.nil_append]
  after_results
  rfl

theorem V_main_v6 (c : Dev nD) : V m c main_v6 = shapeCast S1x32 (m ((c : Thread nD τ).loc main_arg3)) shapeCasts_S32_S1x32 := by
  simp only [V, hostOps0, hostOps0_1, List.flatten_cons, List.flatten_nil, List.append_nil, List.cons_append, List.nil_append]
  after_results
  rfl

theorem V_main_v7 (c : Dev nD) : V m c main_v7 = shapeCast S1x32 (m ((c : Thread nD τ).loc main_arg5)) shapeCasts_S32_S1x32 := by
  simp only [V, hostOps0, hostOps0_1, List.flatten_cons, List.flatten_nil, List.append_nil, List.cons_append, List.nil_append]
  after_results
  rfl

theorem blk1 (c : Dev nD) (t : Fin cfg0.N) (b : ℕ) (hb : b < 128) :
    iblk m c 1 t (ix2 (0 : Fin 1) ⟨b, hb⟩) = sorted (m ((c : Thread nD τ).loc main_arg1)) (ix1 ⟨64 * b, by omega⟩) := by
  have e : iblk m c 1 t (ix2 (0 : Fin 1) ⟨b, hb⟩) = V m c main_v2 (ix2 (0 : Fin 1) ⟨b, hb⟩) := by
    blk_ext! [iblk, idx t]
  rw [e, V_main_v2]
  generalize sorted (m ((c : Thread nD τ).loc main_arg1)) = y
  pointwise

theorem blk2 (c : Dev nD) (t : Fin cfg0.N) (s : ℕ) (hs : s < 64) (b : ℕ) (hb : b < 128) :
    iblk m c 2 t (ix2 ⟨s, hs⟩ ⟨b, hb⟩) = sorted (m ((c : Thread nD τ).loc main_arg1)) (ix1 ⟨64 * b + s, by omega⟩) := by
  have e : iblk m c 2 t (ix2 ⟨s, hs⟩ ⟨b, hb⟩) = V m c main_v4 (ix2 (⟨s, hs⟩ : Fin 64) (⟨b, hb⟩ : Fin 128)) := by
    blk_ext! [iblk, idx t]
  rw [e, V_main_v4]
  generalize sorted (m ((c : Thread nD τ).loc main_arg1)) = y
  pointwise
  exact congrArg y (congrArg ix1 (Fin.ext (by show b * 64 + s = 64 * b + s; omega)))

theorem blk3 (c : Dev nD) (t : Fin cfg0.N) (k : Fin 32) :
    iblk m c 3 t (ix2 (0 : Fin 1) k) = m ((c : Thread nD τ).loc main_arg2) (ix2 k (0 : Fin 1)) := by
  have e : iblk m c 3 t (ix2 (0 : Fin 1) k) = V m c main_v5 (ix2 (0 : Fin 1) k) := by
    blk_ext! [iblk, idx t]
  rw [e, V_main_v5]
  pointwise

theorem blk4 (c : Dev nD) (t : Fin cfg0.N) (k : Fin 32) :
    iblk m c 4 t (ix2 (0 : Fin 1) k) = m ((c : Thread nD τ).loc main_arg3) (ix1 k) := by
  have e : iblk m c 4 t (ix2 (0 : Fin 1) k) = V m c main_v6 (ix2 (0 : Fin 1) k) := by
    blk_ext! [iblk, idx t]
  rw [e, V_main_v6]
  pointwise

theorem blk5 (c : Dev nD) (t : Fin cfg0.N) (h k : Fin 32) :
    iblk m c 5 t (ix2 h k) = m ((c : Thread nD τ).loc main_arg4) (ix2 h k) := by
  blk_ext! [iblk, V, idx t]

theorem blk6 (c : Dev nD) (t : Fin cfg0.N) (k : Fin 32) :
    iblk m c 6 t (ix2 (0 : Fin 1) k) = m ((c : Thread nD τ).loc main_arg5) (ix1 k) := by
  have e : iblk m c 6 t (ix2 (0 : Fin 1) k) = V m c main_v7 (ix2 (0 : Fin 1) k) := by
    blk_ext! [iblk, idx t]
  rw [e, V_main_v7]
  pointwise

/-- The launch memory's rows and reference returns meet the condition. -/
def AllGood (c : Dev nD) : Prop := ∀ r : Fin 4096,
  Good (fun k => m ((c : Thread nD τ).loc main_arg0) (ix2 r k)) (fun k => m ((c : Thread nD τ).loc main_arg1) (ix1 k))

theorem row_blk (c : Dev nD) (t : Fin cfg0.N) (r : Fin 64) (h : t.val * 64 + r < 4096) :
    rowOf (iblk m c 0 t) r = fun k => m ((c : Thread nD τ).loc main_arg0) (ix2 ⟨t.val * 64 + r, h⟩ k) :=
  funext fun k => blk0 m c t r k h

theorem point7 (c : Dev nD) (g : AllGood m c) (t : Fin cfg0.N) (r : Fin 64) (u : Fin 1) (h : t.val * 64 + r < 4096) :
    out0_7 (iblk m c 0 t) (iblk m c 1 t) (iblk m c 2 t) (iblk m c 3 t) (iblk m c 4 t) (iblk m c 5 t) (iblk m c 6 t) (ix2 r u)
      = Cert.ReferenceIdeal.Read.val_main_v69 (F := Ideal) (m ((c : Thread nD τ).loc main_arg0))
          (m ((c : Thread nD τ).loc main_arg1)) (ix2 ⟨t.val * 64 + r, h⟩ u) := by
  have e := Cert.ReferenceIdeal.Hist.kl_apply (m ((c : Thread nD τ).loc main_arg0)) (m ((c : Thread nD τ).loc main_arg1))
    ⟨t.val * 64 + r, h⟩ u
  refine (out0_7_apply _ _ _ _ _ _ _ (m ((c : Thread nD τ).loc main_arg1)) (blk1 m c t) (blk2 m c t) r u ?_).trans (Eq.trans ?_ e.symm)
  · rw [row_blk m c t r h]
    exact g _
  · rw [row_blk m c t r h]
    rfl

theorem point8 (c : Dev nD) (g : AllGood m c) (t : Fin cfg0.N) (r : Fin 64) (q : Fin 32) (h : t.val * 64 + r < 4096) :
    out0_8 (iblk m c 0 t) (iblk m c 1 t) (iblk m c 2 t) (iblk m c 3 t) (iblk m c 4 t) (iblk m c 5 t) (iblk m c 6 t) (ix2 r q)
      = Cert.ReferenceIdeal.Read.val_main_v81 (F := Ideal) (m ((c : Thread nD τ).loc main_arg0))
          (m ((c : Thread nD τ).loc main_arg1)) (m ((c : Thread nD τ).loc main_arg2)) (m ((c : Thread nD τ).loc main_arg3))
          (m ((c : Thread nD τ).loc main_arg4)) (m ((c : Thread nD τ).loc main_arg5)) (ix2 ⟨t.val * 64 + r, h⟩ q) := by
  have e := Cert.ReferenceIdeal.Hist.enc_apply (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) ⟨t.val * 64 + r, h⟩ q
  refine (out0_8_apply _ _ _ _ _ _ _ (m ((c : Thread nD τ).loc main_arg1)) (blk1 m c t) (blk2 m c t) r q ?_).trans (Eq.trans ?_ e.symm)
  · rw [row_blk m c t r h]
    exact g _
  · rw [row_blk m c t r h, funext (blk3 m c t), funext (blk4 m c t), funext (blk6 m c t),
      show (fun k q => iblk m c 5 t (ix2 q k)) = _ from funext fun k => funext fun q => blk5 m c t q k]
    rfl

/-- The first result array after the run is the reference's. -/
theorem final7 (c : Dev nD) (g : AllGood m c) : (dats m 0 c).arrAt 7 cfg0.N
    = Cert.ReferenceIdeal.Read.val_main_v69 (F := Ideal) (m ((c : Thread nD τ).loc main_arg0))
        (m ((c : Thread nD τ).loc main_arg1)) := by
  refine (dats m 0 c).arrAt_eq_of_covers 7 _ (by decide +kernel) fun t _ y => ?_
  blk_simp
  rw [after0_7]
  obtain ⟨r, u, rfl⟩ : ∃ (r : Fin 64) (u : Fin 1), y = ix2 r u := ⟨y 0, y 1, eq_ix2 y⟩
  obtain ⟨-, -, -, -, -, -, -, -, -, ht⟩ := idx t
  have h : t.val * 64 + r < 4096 := by omega
  refine (point7 m c g t r u h).trans (congrArg _ ?_)
  blk_ext! [idx t]

/-- The second result array after the run is the reference's. -/
theorem final8 (c : Dev nD) (g : AllGood m c) : (dats m 0 c).arrAt 8 cfg0.N
    = Cert.ReferenceIdeal.Read.val_main_v81 (F := Ideal) (m ((c : Thread nD τ).loc main_arg0))
          (m ((c : Thread nD τ).loc main_arg1)) (m ((c : Thread nD τ).loc main_arg2)) (m ((c : Thread nD τ).loc main_arg3))
          (m ((c : Thread nD τ).loc main_arg4)) (m ((c : Thread nD τ).loc main_arg5)) := by
  refine (dats m 0 c).arrAt_eq_of_covers 8 _ (by decide +kernel) fun t _ y => ?_
  blk_simp
  rw [after0_8]
  obtain ⟨r, u, rfl⟩ : ∃ (r : Fin 64) (u : Fin 32), y = ix2 r u := ⟨y 0, y 1, eq_ix2 y⟩
  obtain ⟨-, -, -, -, -, -, -, -, -, ht⟩ := idx t
  have h : t.val * 64 + r < 4096 := by omega
  refine (point8 m c g t r u h).trans (congrArg _ ?_)
  blk_ext! [idx t]

end Cert.KernelIdeal.Hist

end
-- ==== Proof.Agree.lean ====
/- The kernel's two results are the reference's. -/
module

public import proofs.«01_k».proof.Defs
public import proofs.«01_k».proof.Proof.Condition
public import proofs.«01_k».proof.Proof.Final

@[expose] public section

noncomputable section

namespace Cert.KernelIdeal.Hist

open Idealize.ShloMosaic Idealize.ShloMosaic.TcCoe Idealize.SL.Sem

theorem allGood (m : (ℓ : Loc nD τ sig) → Buf (Elt Ideal) ℓ)
    (h : Cert.Pre_KernelIdeal_returns_miss_the_inner_edges (hPre_returns_miss_the_inner_edges := Cert.Pre_returns_miss_the_inner_edges.Gen.facts) m)
    (c : Dev nD) : AllGood m c :=
  fun r => Cert.ReferenceIdeal.Hist.good_of_fn _ _ _ _ _ _ (h c) r

theorem agree : Cert.algebraic_KernelIdeal_ReferenceIdeal_pre_returns_miss_the_inner_edges
    (hKernelIdeal := Cert.KernelIdeal.Gen.facts) (hReferenceIdeal := Cert.ReferenceIdeal.Gen.facts)
    (hPre_returns_miss_the_inner_edges := Cert.Pre_returns_miss_the_inner_edges.Gen.facts) := by
  intro m g m' g' pre same
  refine ⟨fun c => (Cert.KernelIdeal.Gen.dats m 0 c).arrAt 7 cfg0.N, fun c => (Cert.KernelIdeal.Gen.dats m 0 c).arrAt 8 cfg0.N,
    Cert.KernelIdeal.Value.run_blocks (F := Ideal) m g,
    (θ_run Cert.ReferenceIdeal.defs _ _).mono (fun r h c => ?_) (Cert.ReferenceIdeal.Value.run (F := Ideal) m' g')⟩
  obtain ⟨h0, h1, h2⟩ := h c
  obtain ⟨e0, e1, e2, e3, e4, e5⟩ := same c
  refine ⟨h0.trans (Eq.trans ?_ (final7 m c (allGood m pre c)).symm), h1.trans (Eq.trans ?_ (final8 m c (allGood m pre c)).symm), h2⟩
  · rw [Cert.ReferenceIdeal.Read.val_main_v69_eq, e0, e1]
  · rw [Cert.ReferenceIdeal.Read.val_main_v81_eq, e0, e1, e2, e3, e4, e5]

end Cert.KernelIdeal.Hist

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_returns_miss_the_inner_edges
public import proofs.«01_k».proof.Proof.Gen.KernelIdeal.Value
public import proofs.«01_k».proof.Proof.Gen.ReferenceIdeal.Run
public import proofs.«01_k».proof.Proof.Gen.ReferenceIdeal.Read
public import proofs.«01_k».proof.Proof.Agree
public import Idealize.ShloMosaic.Adequacy
public import Idealize.ShloMosaic.Init

@[expose] public section

noncomputable section

namespace Cert.Proof

open Idealize.ShloMosaic Idealize.SL.Sem Cert.Kernel

/-- The reference uses no semaphore, and its run keeps its arguments. -/
theorem frame_reference : Cert.quiescent_ReferenceIdeal (hReferenceIdeal := Cert.ReferenceIdeal.Gen.facts) := fun m ρ _ =>
  (θ_run Cert.ReferenceIdeal.defs _ _).mono (fun r h => ⟨fun c => (h c).2.2,
      Idealize.ShloMosaic.sem_eq_zero_of_no_sems (by decide) r.2⟩)
    (Cert.ReferenceIdeal.Value.run (F := Ideal) m ρ)

theorem claim : Cert.Claim := ⟨Cert.Kernel.Gen.facts, Cert.KernelIdeal.Gen.facts, Cert.ReferenceIdeal.Gen.facts,
  Cert.Pre_returns_miss_the_inner_edges.Gen.facts,
  fun m ρ _ => Cert.Kernel.Gen.frame m ρ, fun m ρ _ => Cert.KernelIdeal.Gen.frame m ρ, fun m ρ _ => Cert.KernelIdeal.Gen.frame m ρ,
  frame_reference, fun m ρ _ => frame_reference m ρ trivial, trivial, Cert.KernelIdeal.Hist.agree⟩

end Cert.Proof

end
